-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x1536 : Shape := ⟨3, ![2, 8192, 1536]⟩
abbrev S2x8192x5248 : Shape := ⟨3, ![2, 8192, 5248]⟩
abbrev S2x8192x164 : Shape := ⟨3, ![2, 8192, 164]⟩
abbrev S16384x1536 : Shape := ⟨2, ![16384, 1536]⟩
abbrev S16384x5248 : Shape := ⟨2, ![16384, 5248]⟩
abbrev S16384x164 : Shape := ⟨2, ![16384, 164]⟩
abbrev S1536x5248 : Shape := ⟨2, ![1536, 5248]⟩
abbrev S512x1536 : Shape := ⟨2, ![512, 1536]⟩
abbrev S512x5248 : Shape := ⟨2, ![512, 5248]⟩
abbrev S512x164 : Shape := ⟨2, ![512, 164]⟩
abbrev S16x1536 : Shape := ⟨2, ![16, 1536]⟩
abbrev S16x5248 : Shape := ⟨2, ![16, 5248]⟩
abbrev S1536x512 : Shape := ⟨2, ![1536, 512]⟩
abbrev S2x64x128 : Shape := ⟨3, ![2, 64, 128]⟩
abbrev S2x2x8x128 : Shape := ⟨4, ![2, 2, 8, 128]⟩
abbrev S256x128 : Shape := ⟨2, ![256, 128]⟩
abbrev S8x2x16x128 : Shape := ⟨4, ![8, 2, 16, 128]⟩
abbrev S8x16x128 : Shape := ⟨3, ![8, 16, 128]⟩
abbrev S8x2x8x128 : Shape := ⟨4, ![8, 2, 8, 128]⟩
abbrev S8x8x128 : Shape := ⟨3, ![8, 8, 128]⟩
abbrev S64x128 : Shape := ⟨2, ![64, 128]⟩
abbrev S1x64x128 : Shape := ⟨3, ![1, 64, 128]⟩
abbrev S8x128 : Shape := ⟨2, ![8, 128]⟩
abbrev S1x1x8x128 : Shape := ⟨4, ![1, 1, 8, 128]⟩
abbrev S1x1x1x128 : Shape := ⟨4, ![1, 1, 1, 128]⟩
abbrev S1x128 : Shape := ⟨2, ![1, 128]⟩
abbrev S16x128 : Shape := ⟨2, ![16, 128]⟩
abbrev S1x16x128 : Shape := ⟨3, ![1, 16, 128]⟩
abbrev S32x128 : Shape := ⟨2, ![32, 128]⟩
abbrev S2x16x128 : Shape := ⟨3, ![2, 16, 128]⟩
abbrev S128x256 : Shape := ⟨2, ![128, 256]⟩
abbrev S256x128x1 : Shape := ⟨3, ![256, 128, 1]⟩
abbrev S8x4x8x128 : Shape := ⟨4, ![8, 4, 8, 128]⟩
abbrev S512x512 : Shape := ⟨2, ![512, 512]⟩
abbrev S256x36 : Shape := ⟨2, ![256, 36]⟩
abbrev S256x92 : Shape := ⟨2, ![256, 92]⟩
abbrev S1536x128 : Shape := ⟨2, ![1536, 128]⟩
abbrev S512x128 : Shape := ⟨2, ![512, 128]⟩

abbrev nBuf : Space → Nat
  | .hbm => 11
  | .vmem => 19
  | .smem => 0
  | _ => 0

abbrev bufTy : (tb : Table) → Fin (tcTables nBuf tb) → BufTy
  | .hbm, ⟨0, _⟩ => ⟨S2x8192x1536, .bf16⟩
  | .hbm, ⟨1, _⟩ => ⟨S2x8192x5248, .fp8e5m2⟩
  | .hbm, ⟨2, _⟩ => ⟨S2x8192x164, .f32⟩
  | .hbm, ⟨3, _⟩ => ⟨S16384x1536, .bf16⟩
  | .hbm, ⟨4, _⟩ => ⟨S16384x5248, .fp8e5m2⟩
  | .hbm, ⟨5, _⟩ => ⟨S16384x164, .f32⟩
  | .hbm, ⟨6, _⟩ => ⟨S1536x5248, .f32⟩
  | .hbm, ⟨7, _⟩ => ⟨S16384x1536, .fp8e4m3⟩
  | .hbm, ⟨8, _⟩ => ⟨S512x1536, .f32⟩
  | .hbm, ⟨9, _⟩ => ⟨S16384x5248, .fp8e5m2⟩
  | .hbm, ⟨10, _⟩ => ⟨S512x5248, .f32⟩
  | .local _ .vmem, ⟨0, _⟩ => ⟨S512x1536, .bf16⟩
  | .local _ .vmem, ⟨1, _⟩ => ⟨S512x1536, .bf16⟩
  | .local _ .vmem, ⟨2, _⟩ => ⟨S512x5248, .fp8e5m2⟩
  | .local _ .vmem, ⟨3, _⟩ => ⟨S512x5248, .fp8e5m2⟩
  | .local _ .vmem, ⟨4, _⟩ => ⟨S512x164, .f32⟩
  | .local _ .vmem, ⟨5, _⟩ => ⟨S512x164, .f32⟩
  | .local _ .vmem, ⟨6, _⟩ => ⟨S1536x5248, .f32⟩
  | .local _ .vmem, ⟨7, _⟩ => ⟨S512x1536, .fp8e4m3⟩
  | .local _ .vmem, ⟨8, _⟩ => ⟨S512x1536, .fp8e4m3⟩
  | .local _ .vmem, ⟨9, _⟩ => ⟨S16x1536, .f32⟩
  | .local _ .vmem, ⟨10, _⟩ => ⟨S16x1536, .f32⟩
  | .local _ .vmem, ⟨11, _⟩ => ⟨S512x5248, .fp8e5m2⟩
  | .local _ .vmem, ⟨12, _⟩ => ⟨S512x5248, .fp8e5m2⟩
  | .local _ .vmem, ⟨13, _⟩ => ⟨S16x5248, .f32⟩
  | .local _ .vmem, ⟨14, _⟩ => ⟨S16x5248, .f32⟩
  | .local _ .vmem, ⟨15, _⟩ => ⟨S1536x512, .bf16⟩
  | .local _ .vmem, ⟨16, _⟩ => ⟨S512x5248, .bf16⟩
  | .local _ .vmem, ⟨17, _⟩ => ⟨S2x64x128, .f32⟩
  | .local _ .vmem, ⟨18, _⟩ => ⟨S2x2x8x128, .f32⟩
  | _, _ => ⟨S2x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5248 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x164 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x5248 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5248 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x5248 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x8192x1536 : Shape := ⟨3, ![2, 8192, 1536]⟩
abbrev S2x8192x5248 : Shape := ⟨3, ![2, 8192, 5248]⟩
abbrev S2x8192x164 : Shape := ⟨3, ![2, 8192, 164]⟩
abbrev S16384x1536 : Shape := ⟨2, ![16384, 1536]⟩
abbrev S16384x5248 : Shape := ⟨2, ![16384, 5248]⟩
abbrev S16384x164 : Shape := ⟨2, ![16384, 164]⟩
abbrev S1536x5248 : Shape := ⟨2, ![1536, 5248]⟩
abbrev S164x5248 : Shape := ⟨2, ![164, 5248]⟩
abbrev S512x32x1536 : Shape := ⟨3, ![512, 32, 1536]⟩
abbrev S512x1536 : Shape := ⟨2, ![512, 1536]⟩
abbrev S252x1x1 : Shape := ⟨3, ![252, 1, 1]⟩
abbrev S1x512x1536 : Shape := ⟨3, ![1, 512, 1536]⟩
abbrev S252x512x1536 : Shape := ⟨3, ![252, 512, 1536]⟩
abbrev S512x1x1536 : Shape := ⟨3, ![512, 1, 1536]⟩
abbrev S512x32x5248 : Shape := ⟨3, ![512, 32, 5248]⟩
abbrev S512x5248 : Shape := ⟨2, ![512, 5248]⟩
abbrev S1x512x5248 : Shape := ⟨3, ![1, 512, 5248]⟩
abbrev S252x512x5248 : Shape := ⟨3, ![252, 512, 5248]⟩
abbrev S512x1x5248 : Shape := ⟨3, ![512, 1, 5248]⟩

abbrev nBuf : Space → Nat
  | .hbm => 7
  | .vmem => 4
  | .smem => 0
  | _ => 0

abbrev bufTy : (tb : Table) → Fin (tcTables nBuf tb) → BufTy
  | .hbm, ⟨0, _⟩ => ⟨S2x8192x1536, .bf16⟩
  | .hbm, ⟨1, _⟩ => ⟨S2x8192x5248, .fp8e5m2⟩
  | .hbm, ⟨2, _⟩ => ⟨S2x8192x164, .f32⟩
  | .hbm, ⟨3, _⟩ => ⟨S16384x1536, .bf16⟩
  | .hbm, ⟨4, _⟩ => ⟨S16384x5248, .fp8e5m2⟩
  | .hbm, ⟨5, _⟩ => ⟨S16384x164, .f32⟩
  | .hbm, ⟨6, _⟩ => ⟨S1536x5248, .f32⟩
  | .local _ .vmem, ⟨0, _⟩ => ⟨S16384x1536, .bf16⟩
  | .local _ .vmem, ⟨1, _⟩ => ⟨S16384x5248, .fp8e5m2⟩
  | .local _ .vmem, ⟨2, _⟩ => ⟨S16384x164, .f32⟩
  | .local _ .vmem, ⟨3, _⟩ => ⟨S1536x5248, .f32⟩
  | _, _ => ⟨S2x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16384x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x5248 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x164 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x5248 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Held.lean ====
/-
  Buffers held at contents known on a set of elements, and the rules that load from them and store to them.
-/
module

public import Idealize.ShloMosaic.Lib.Pipeline.FrameBody
public import Idealize.ShloMosaic.Lib.Ring
public import Idealize.ShloMosaic.Lib.Tactic
public import Idealize.ShloMosaic.Lib.Claim

@[expose] public section

noncomputable section

namespace Mx

open Idealize.ShloMosaic Idealize.ShloMosaic.TcCoe
open Idealize.SL
open Idealize.SL.RA Idealize.SL.Sem Idealize.SL.ProofMode
open Idealize.SL.BI (sProp bigSep)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl

/-- The core owns the memref, whose contents agree with `Q` at every index of `P`. -/
def held (c : Thread nD τ) {sp : Space} {s : Shape} {e : EltTy} (m : Memref sig c.2.kind sp s e)
    (P : s.Idx → Prop) (Q : s.Idx → Val e) : sProp 𝕄 :=
  iprop(∃ f, ⌜∀ i, P i → m.view.read Val f i = Q i⌝ ∗ (m.view.loc c ↦[m.view.set]{fullShare} f))

section
variable [Preorder Lvl] {defs : Defs nD τ sig Val Λ} (𝒱 : Variants) (c : Thread nD τ)
variable (bd : Option 𝒱.V) (E : Set Name)
variable {s : Shape} {e : EltTy} {cs : CoreSpace}
variable {α : Type} {Po : α → sProp (MT nD τ sig Ix Val Name U Lvl)}

/-- A load from elements that are all known. -/
theorem wp_ld {m : Memref sig c.2.kind cs s e} {r : LoadRect s} {hl : m.view.LoadsAt r}
    {k : (r.shape.Idx → Val e) → Prog (TpuEff nD τ sig Val Λ c.2) α} {P : s.Idx → Prop} {Q : s.Idx → Val e}
    (hP : ∀ y, P (r.idx y)) :
    (held c m P Q : sProp 𝕄)
      ⊢ iprop((held c m P Q -∗ wp frame (wpE defs 𝒱 c bd) E (k fun y => Q (r.idx y)) Po)
        -∗ wp frame (wpE defs 𝒱 c bd) E (.op (.load m r hl) k) Po) := by
  unfold held
  iintro ⟨%f, %hf, H⟩ K
  have he : m.view.readAt Val r f = fun y => Q (r.idx y) := by
    funext y; rw [View.readAt_apply]; exact hf _ (hP y)
  have R := wp_load (defs := defs) 𝒱 c bd (Γ := .empty) E (m := m) (r := r) (hl := hl) (k := k) (S := m.view.set) (q := fullShare) (f := f) (Q := Po)
    (View.setOn_subset_set _ _)
  iapply R $$ H
  iintro H
  rw [he]
  iapply K
  iexists f
  isplitr
  · ipureintro; exact hf
  · iexact H

/-- A load whose value is not used. -/
theorem wp_skip {m : Memref sig c.2.kind cs s e} {r : LoadRect s} {hl : m.view.LoadsAt r}
    {k : (r.shape.Idx → Val e) → Prog (TpuEff nD τ sig Val Λ c.2) α} {P : s.Idx → Prop} {Q : s.Idx → Val e} :
    (held c m P Q : sProp 𝕄)
      ⊢ iprop((∀ v, held c m P Q -∗ wp frame (wpE defs 𝒱 c bd) E (k v) Po)
        -∗ wp frame (wpE defs 𝒱 c bd) E (.op (.load m r hl) k) Po) := by
  unfold held
  iintro ⟨%f, %hf, H⟩ K
  have R := wp_load (defs := defs) 𝒱 c bd (Γ := .empty) E (m := m) (r := r) (hl := hl) (k := k) (S := m.view.set) (q := fullShare) (f := f) (Q := Po)
    (View.setOn_subset_set _ _)
  iapply R $$ H
  iintro H
  iapply K $$ %(m.view.readAt Val r f)
  iexists f
  isplitr
  · ipureintro; exact hf
  · iexact H

/-- A load through a squeezed slice of elements that are all known. -/
theorem wp_ld_squeeze {m : Memref sig c.2.kind cs s e} {r : Rect s} {hr : ∀ a, r.stride a = 1} {t : Shape} {hs : r.shape.Squeezes t}
    {B : LoadRect t} {hl : ((m.slice r hr).squeeze t hs).view.LoadsAt B}
    {k : (B.shape.Idx → Val e) → Prog (TpuEff nD τ sig Val Λ c.2) α} {P : s.Idx → Prop} {Q : s.Idx → Val e}
    (hP : ∀ y, P (r.emb (Shape.reshapeEquiv hs.numel_eq (B.idx y)))) :
    (held c m P Q : sProp 𝕄)
      ⊢ iprop((held c m P Q -∗ wp frame (wpE defs 𝒱 c bd) E (k fun y => Q (r.emb (Shape.reshapeEquiv hs.numel_eq (B.idx y)))) Po)
        -∗ wp frame (wpE defs 𝒱 c bd) E (.op (.load ((m.slice r hr).squeeze t hs) B hl) k) Po) := by
  unfold held
  iintro ⟨%f, %hf, H⟩ K
  have he : ((m.slice r hr).squeeze t hs).view.readAt Val B f = fun y => Q (r.emb (Shape.reshapeEquiv hs.numel_eq (B.idx y))) := by
    funext y; exact hf _ (hP y)
  have R := wp_load (defs := defs) 𝒱 c bd (Γ := .empty) E (m := (m.slice r hr).squeeze t hs) (r := B) (hl := hl) (k := k) (S := m.view.set) (q := fullShare) (f := f) (Q := Po)
    (View.setOn_slice_reshape_subset_set ..)
  iapply R $$ H
  iintro H
  rw [he]
  iapply K
  iexists f
  isplitr
  · ipureintro; exact hf
  · iexact H

/-- A store: what is known afterwards is what was stored and what was known outside it. -/
theorem wp_st {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {P P' : s.Idx → Prop} {Q Q' : s.Idx → Val e}
    (hw : ∀ y, P' (r.emb y) → Q' (r.emb y) = w y)
    (ho : ∀ i, P' i → (∀ y, r.emb y ≠ i) → P i ∧ Q i = Q' i) :
    (held c m P Q : sProp 𝕄)
      ⊢ iprop((held c m P' Q' -∗ wp frame (wpE defs 𝒱 c bd) E (k ⟨⟩) Po)
        -∗ wp frame (wpE defs 𝒱 c bd) E (.op (.store m r w Finset.univ hx hm) k) Po) := by
  unfold held
  iintro ⟨%f, %hf, H⟩ K
  have R := wp_store (defs := defs) 𝒱 c bd (Γ := .empty) E (m := m) (r := r) (w := w) (Mk := Finset.univ) (hx := hx) (hm := hm) (k := k)
    (S := m.view.set) (f := f) (Q := Po) (Memref.setOn_access_subset _ _ _)
  iapply R $$ H
  iintro H
  iapply K
  iexists ((m.access r).write Val f w Finset.univ)
  isplitr
  · ipureintro
    intro i hi
    by_cases h : ∃ y, r.emb y = i
    · obtain ⟨y, rfl⟩ := h
      rw [hw y hi]
      exact View.read_slice_write_emb (h := Finset.mem_univ _) ..
    · have h' : ∀ y, r.emb y ≠ i := fun y he => h ⟨y, he⟩
      rw [← (ho i hi h').2, ← hf i (ho i hi h').1]
      exact View.read_slice_write_of_not_mem (h := fun hm => by obtain ⟨y, -, he⟩ := Finset.mem_map.mp hm; exact h' y he) ..
  · iexact H

end

end Mx

end
-- ==== Proof.Units.lean ====
/-
  One grid step of the kernel in pieces: the vectors a tile's quantisation computes, and the program that quantises one
  tile of `x`, one tile of `dy`, or adds one chunk of columns to the weight gradient, each followed by a program `K`.
-/
module

public import proofs.«01_k».proof.Proof.Held

@[expose] public section

noncomputable section

namespace Mx

open Idealize.ShloMosaic Idealize.ShloMosaic.TcCoe
open Idealize.SL
open Idealize.SL.RA Idealize.SL.Sem Idealize.SL.ProofMode

abbrev S256x128 : Shape := ⟨2, ![256, 128]⟩
abbrev S128x256 : Shape := ⟨2, ![128, 256]⟩
abbrev S64x128 : Shape := ⟨2, ![64, 128]⟩
abbrev S32x128 : Shape := ⟨2, ![32, 128]⟩
abbrev S16x128 : Shape := ⟨2, ![16, 128]⟩
abbrev S8x128 : Shape := ⟨2, ![8, 128]⟩
abbrev S1x128 : Shape := ⟨2, ![1, 128]⟩
abbrev S8x2x16x128 : Shape := ⟨4, ![8, 2, 16, 128]⟩
abbrev S8x16x128 : Shape := ⟨3, ![8, 16, 128]⟩
abbrev S8x2x8x128 : Shape := ⟨4, ![8, 2, 8, 128]⟩
abbrev S8x4x8x128 : Shape := ⟨4, ![8, 4, 8, 128]⟩
abbrev S8x8x128 : Shape := ⟨3, ![8, 8, 128]⟩
abbrev S2x16x128 : Shape := ⟨3, ![2, 16, 128]⟩
abbrev S1x16x128 : Shape := ⟨3, ![1, 16, 128]⟩
abbrev S1x64x128 : Shape := ⟨3, ![1, 64, 128]⟩
abbrev S2x64x128 : Shape := ⟨3, ![2, 64, 128]⟩
abbrev S1x1x8x128 : Shape := ⟨4, ![1, 1, 8, 128]⟩
abbrev S1x1x1x128 : Shape := ⟨4, ![1, 1, 1, 128]⟩
abbrev S2x2x8x128 : Shape := ⟨4, ![2, 2, 8, 128]⟩
abbrev S256x128x1 : Shape := ⟨3, ![256, 128, 1]⟩
/-- `a` rows of `b`. -/
abbrev Mat (a b : ℕ) : Shape := ⟨2, ![a, b]⟩

variable {F : FTy → Type} [FloatOps F]

/-! ## Scales -/

/-- The word `b` as a value, everywhere. -/
abbrev lit (s : Shape) (b : BitVec 32) : FVec F s .f32 := broadcast s (Scalar.ofBits .f32 b)

/-- One step of the search for the exponent: where the value is at least `c` it is multiplied by `d` … -/
def yStep {s : Shape} (c d : BitVec 32) (y : FVec F s .f32) : FVec F s .f32 :=
  select (cmpf .oge y (lit s c)) (mulf y (lit s d)) y
/-- … and `k` is added to the exponent. -/
def eStep {s : Shape} (c k : BitVec 32) (y : FVec F s .f32) (e : IVec s 32) : IVec s 32 :=
  select (cmpf .oge y (lit s c)) (addi e (broadcast s k)) e

/-- The exponent field of the magnitudes `a`, in its place. -/
def fieldOf {s : Shape} (a : FVec F s .f32) : IVec s 32 :=
  let y0 := select (cmpf .olt a (lit s 0x3F800000#32)) (mulf a (lit s 0x7E800000#32)) a
  let e0 : IVec s 32 := select (cmpf .olt a (lit s 0x3F800000#32)) (broadcast s 1#32) (broadcast s 127#32)
  let y1 := yStep 0x5F800000#32 0x1F800000#32 y0
  let e1 := eStep 0x5F800000#32 64#32 y0 e0
  let y2 := yStep 0x4F800000#32 0x2F800000#32 y1
  let e2 := eStep 0x4F800000#32 32#32 y1 e1
  let y3 := yStep 0x47800000#32 0x37800000#32 y2
  let e3 := eStep 0x47800000#32 16#32 y2 e2
  let y4 := yStep 0x43800000#32 0x3B800000#32 y3
  let e4 := eStep 0x43800000#32 8#32 y3 e3
  let y5 := yStep 0x41800000#32 0x3D800000#32 y4
  let e5 := eStep 0x41800000#32 4#32 y4 e4
  let y6 := yStep 0x40800000#32 0x3E800000#32 y5
  let e6 := eStep 0x40800000#32 2#32 y5 e5
  let y7 := yStep 0x40000000#32 0x3F000000#32 y6
  let e7 := eStep 0x40000000#32 1#32 y6 e6
  shli (select (cmpf .olt y7 (lit s 0x3F800000#32)) (broadcast s 0#32) e7) (broadcast s 23#32)

/-- The scale a field stands for … -/
def scaleOf {s : Shape} (b : IVec s 32) : FVec F s .f32 :=
  select (cmpi .eq b (broadcast s 0#32)) (lit s 0x3F800000#32) (bitcastToFloat .f32 (addi b (broadcast s 8388608#32)))
/-- … and one over it. -/
def invOf {s : Shape} (b : IVec s 32) : FVec F s .f32 :=
  select (cmpi .eq b (broadcast s 0#32)) (lit s 0x3F800000#32) (bitcastToFloat .f32 (subi (broadcast s 2122317824#32) b))

/-- Row `s` of every group of eight. -/
abbrev rows8 (s : ℕ) (h : ∀ a, S8x128.size a = 0 ∨ (![s, 0] : Fin 2 → ℕ) a + (![8, 1] : Fin 2 → ℕ) a * (S8x128.size a - 1) < S64x128.size a) :
    LoadRect S64x128 := ⟨![s, 0], S8x128.size, ![8, 1], h⟩

theorem rows8_inb {s : ℕ} (h : s < 8) :
    ∀ a, S8x128.size a = 0 ∨ (![s, 0] : Fin 2 → ℕ) a + (![8, 1] : Fin 2 → ℕ) a * (S8x128.size a - 1) < S64x128.size a := by
  intro a; right
  fin_cases a
  · show s + 8 * 7 < 64; omega
  · show 0 + 1 * 127 < 128; omega

/-- The greatest of eight rows, eight groups of them. -/
def max8 (a0 a1 a2 a3 a4 a5 a6 a7 : FVec F S8x128 .f32) : FVec F S8x128 .f32 :=
  maximumf (maximumf (maximumf (maximumf (maximumf (maximumf (maximumf a0 a1) a2) a3) a4) a5) a6) a7

/-- The exponent fields of the scales of a tile with row maxima `A`, each group of eight rows divided by the greatest code. -/
def fields (m : BitVec 32) (A : FVec F S8x128 .f32) : IVec S8x128 32 :=
  fieldOf (minimumf (mulf A (lit S8x128 m)) (lit S8x128 0x7E000000#32))

/-- Row `b` of a scratch slot, as it is broadcast. -/
abbrev asRow (v : FVec F S1x1x1x128 .f32) : FVec F S1x128 .f32 :=
  shapeCast S1x128 (shapeCast S1x128 v (by decide)) (by decide)

/-- A row of scales over 16 rows in bf16. -/
abbrev asRow16 (v : FVec F S1x1x1x128 .f32) : FVec F S1x16x128 .bf16 :=
  shapeCast S1x16x128 (truncf .bf16 (broadcastTo S16x128 (asRow v) (by decide)) (by decide)) (by decide)

/-- Codes times their scales. -/
def hatOf {φ : FTy} (h : φ.bits < FTy.bits .bf16) (q : FVec F S32x128 φ) (sc : FVec F S1x1x1x128 .f32) : FVec F S32x128 .bf16 :=
  shapeCast S32x128 (mulf (shapeCast S2x16x128 (extf .bf16 q h) (by decide)) (broadcastTo S2x16x128 (asRow16 sc) (by decide))) (by decide)

/-! ## A tile of `x` -/

/-- The row maxima of a tile of `x`. -/
def xMax (X : FVec F S256x128 .bf16) : FVec F S64x128 .f32 :=
  shapeCast S64x128 (multiReduction .maximumf [1] S8x8x128
    (shapeCast S8x2x8x128 (extf .f32 (multiReduction .maximumf [1] S8x16x128
      (shapeCast S8x2x16x128 (absf X) (by decide)) 0xFF80#16 (by decide) (.inr rfl) rfl) (by decide)) (by decide))
    0xFF800000#32 (by decide) (.inl rfl) rfl) (by decide)

/-- The codes of the 32 rows from `o` of a tile of `x`. -/
def xCodes (o : ℕ) (ho : S256x128.Slices ![o, 0] S32x128) (X : FVec F S256x128 .bf16) (inv : FVec F S1x1x1x128 .f32) :
    FVec F S32x128 .fp8e4m3 :=
  truncf .fp8e4m3 (shapeCast S32x128
    (minimumf (broadcast S2x16x128 (Scalar.truncf .bf16 (by decide) (Scalar.ofBits .f32 0x43E00000#32)))
      (maximumf (broadcast S2x16x128 (Scalar.truncf .bf16 (by decide) (Scalar.ofBits .f32 0xC3E00000#32)))
        (mulf (shapeCast S2x16x128 (extractStridedSlice S32x128 ![o, 0] X ho) (by decide))
          (broadcastTo S2x16x128 (asRow16 inv) (by decide))))) (by decide)) (by decide)

theorem stack8 : Shape.Concatenates [S32x128, S32x128, S32x128, S32x128, S32x128, S32x128, S32x128, S32x128] S256x128 0 := by decide

/-- Eight blocks of 32 rows one under the other, transposed. -/
def stackT (h0 h1 h2 h3 h4 h5 h6 h7 : FVec F S32x128 .bf16) : FVec F S128x256 .bf16 :=
  transpose S128x256 [1, 0] (concatenate S256x128 0 [⟨S32x128, h0⟩, ⟨S32x128, h1⟩, ⟨S32x128, h2⟩, ⟨S32x128, h3⟩, ⟨S32x128, h4⟩,
    ⟨S32x128, h5⟩, ⟨S32x128, h6⟩, ⟨S32x128, h7⟩] stack8) (by decide)

/-! ## A tile of `dy` -/

/-- The row maxima of a tile of `dy`. -/
def yMax (Y : FVec F S256x128 .f32) : FVec F S64x128 .f32 :=
  shapeCast S64x128 (multiReduction .maximumf [1] S8x8x128 (shapeCast S8x4x8x128 (absf Y) (by decide))
    0xFF800000#32 (by decide) (.inl rfl) rfl) (by decide)

/-- The codes of the 32 rows from `o` of a tile of `dy`. -/
def yCodes (o : ℕ) (ho : S256x128.Slices ![o, 0] S32x128) (Y : FVec F S256x128 .f32) (inv : FVec F S1x1x1x128 .f32) :
    FVec F S32x128 .fp8e5m2 :=
  truncf .fp8e5m2 (minimumf (lit S32x128 0x47600000#32) (maximumf (lit S32x128 0xC7600000#32)
    (mulf (extractStridedSlice S32x128 ![o, 0] Y ho) (broadcastTo S32x128 (asRow inv) (by decide))))) (by decide)

/-- The scales at the indices `g`, of the lanes `S` of scales. -/
def spread (S : FVec F S256x128 .f32) (g : IVec S256x128 32) : FVec F S256x128 .f32 :=
  dynamicGather 1 (extf .f32 (truncf .bf16 S (by decide)) (by decide))
    (shapeCast S256x128 (shapeCast S256x128x1 (select (cmpi .slt g (broadcast S256x128 0#32)) (addi g (broadcast S256x128 128#32)) g)
      (by decide)) (by decide))

theorem c256 : S256x128.ShapeCasts S256x128 := by decide

/-- The group of 32 columns a column of a tile lies in. -/
def laneGroup : IVec S256x128 32 :=
  let v0 : IVec S256x128 32 := iota .tc S256x128 32 [1] (by decide)
  let v1 : IVec S256x128 32 := broadcast S256x128 32#32
  let z : IVec S256x128 32 := broadcast S256x128 0#32
  let v2 := divsi v0 v1
  let v9 := subi (extui 32 (cmpi .sgt v0 z) (by decide)) (extui 32 (cmpi .slt v0 z) (by decide))
  let v14 : BitVec 32 := Scalar.subi (Scalar.extui (Scalar.cmpi .sgt 32#32 0#32)) (Scalar.extui (Scalar.cmpi .slt 32#32 0#32))
  select (andi (cmpi .ne v9 (broadcast S256x128 v14)) (cmpi .ne (remsi v0 v1) z)) (subi v2 (broadcast S256x128 1#32)) v2

/-- The lane of the scales of `dy` each column of a tile reads, the first reading lane `o`. -/
def laneOf (o : ℕ) : IVec S256x128 32 := addi laneGroup (broadcast S256x128 (BitVec.ofNat 32 o))

/-- The scales at 128 lanes … -/
def scFull (o : ℕ) (X : FVec F S256x128 .f32) : FVec F S256x128 .f32 := spread (shapeCast S256x128 X c256) (laneOf o)
/-- … and at fewer, the others being zero. -/
def scPad (o w : ℕ) (hc : (Mat 256 w).ShapeCasts (Mat 256 w)) (hk : Shape.Concatenates [Mat 256 w, Mat 256 (128 - w)] S256x128 1)
    (X : FVec F (Mat 256 w) .f32) : FVec F S256x128 .f32 :=
  spread (concatenate S256x128 1 [⟨Mat 256 w, shapeCast (Mat 256 w) X hc⟩, ⟨Mat 256 (128 - w), lit (Mat 256 (128 - w)) 0x00000000#32⟩] hk) (laneOf o)

/-! ## The programs -/

/-- The buffers of one grid step: the three blocks read, the five blocks written, the two products' operands and the scratch. -/
structure Bufs (sig : RefSig) (nx ny ns : ℕ) where
  a1 : Memref sig .tc .vmem (Mat 512 nx) .bf16
  a2 : Memref sig .tc .vmem (Mat 512 ny) .fp8e5m2
  a3 : Memref sig .tc .vmem (Mat 512 ns) .f32
  a4 : Memref sig .tc .vmem (Mat nx ny) .f32
  a5 : Memref sig .tc .vmem (Mat 512 nx) .fp8e4m3
  a6 : Memref sig .tc .vmem (Mat 16 nx) .f32
  a7 : Memref sig .tc .vmem (Mat 512 ny) .fp8e5m2
  a8 : Memref sig .tc .vmem (Mat 16 ny) .f32
  a9 : Memref sig .tc .vmem (Mat nx 512) .bf16
  a10 : Memref sig .tc .vmem (Mat 512 ny) .bf16
  a11 : Memref sig .tc .vmem S2x64x128 .f32
  a12 : Memref sig .tc .vmem S2x2x8x128 .f32
  w5 : a5.IsWhole
  w7 : a7.IsWhole
  w9 : a9.IsWhole
  w10 : a10.IsWhole

theorem inb2 {a b o p m n : ℕ} (h : o + m ≤ a) (h' : p + n ≤ b) :
    ∀ x, (![o, p] : Fin 2 → ℕ) x + (Mat m n).size x ≤ (Mat a b).size x := by
  intro x; fin_cases x
  · exact h
  · exact h'

/-- The rectangle of `m` rows and `n` columns at `(o, p)`. -/
abbrev box {a b : ℕ} (o p m n : ℕ) (h : o + m ≤ a) (h' : p + n ≤ b) : Rect (Mat a b) :=
  Rect.unit (s := Mat a b) ![o, p] (Mat m n).size (inb2 h h')

theorem box_packed {a b o p m n k : ℕ} (h : o + m ≤ a) (h' : p + n ≤ b) (ho : k ∣ o) (hm : k ∣ m) :
    (box (a := a) (b := b) o p m n h h').PackedRows k :=
  .inr ⟨Nat.le_refl 2, rfl, .inl ⟨ho, hm⟩⟩

theorem mat_pos {m n : ℕ} (hm : 0 < m) (hn : 0 < n) : 0 < (Mat m n).numel := by
  refine Shape.numel_pos fun i => ?_
  fin_cases i
  · exact hm
  · exact hn

abbrev slotBox (sl : ℕ) (h : sl < 2) : Rect S2x64x128 :=
  Rect.unit (s := S2x64x128) ![sl, 0, 0] S1x64x128.size (by
    intro a; fin_cases a
    · show sl + 1 ≤ 2; omega
    · exact Nat.le_refl _
    · exact Nat.le_refl _)

abbrev slot8 (sl t : ℕ) (h : sl < 2) (h' : t < 2) : Rect S2x2x8x128 :=
  Rect.unit (s := S2x2x8x128) ![sl, t, 0, 0] S1x1x8x128.size (by
    intro a; fin_cases a
    · show sl + 1 ≤ 2; omega
    · show t + 1 ≤ 2; omega
    · exact Nat.le_refl _
    · exact Nat.le_refl _)

abbrev slot1 (sl t b : ℕ) (h : sl < 2) (h' : t < 2) (h'' : b < 8) : Rect S2x2x8x128 :=
  Rect.unit (s := S2x2x8x128) ![sl, t, b, 0] S1x1x1x128.size (by
    intro a; fin_cases a
    · show sl + 1 ≤ 2; omega
    · show t + 1 ≤ 2; omega
    · show b + 1 ≤ 8; omega
    · exact Nat.le_refl _)

variable {nD : Nat} {τ : Topo} {sig : RefSig} {Λ : Labels} {nx ny ns : ℕ} (B : Bufs sig nx ny ns)

abbrev PG (nD : Nat) (τ : Topo) (sig : RefSig) (Λ : Labels) (F : FTy → Type) : Type 1 :=
  Prog (TpuEff nD τ sig (Elt F) Λ .tc) PUnit

/-- A load followed by `K`. -/
abbrev ld {s : Shape} {e : EltTy} (m : Memref sig .tc .vmem s e) (r : LoadRect s) (h : 0 < r.shape.numel)
    (K : (r.shape.Idx → Elt F e) → PG nD τ sig Λ F) : PG nD τ sig Λ F :=
  .op (.load m r (View.loadsAt_vmem h)) K

/-- A store followed by `K`. -/
abbrev st {s : Shape} {e : EltTy} (m : Memref sig .tc .vmem s e) (r : Rect s) (w : r.shape.Idx → Elt F e)
    (h : (m.access r).Stores Finset.univ) (K : PG nD τ sig Λ F) : PG nD τ sig Λ F :=
  .op (.store m r w Finset.univ h (.inl rfl)) fun _ => K

theorem p64 : 0 < S1x64x128.numel := by decide
theorem p8 : 0 < S8x128.numel := by decide
theorem p118 : 0 < S1x1x8x128.numel := by decide
theorem p111 : 0 < S1x1x1x128.numel := by decide
theorem sq64 : S1x64x128.Squeezes S64x128 := by decide
theorem c128 : S128x256.ShapeCasts S128x256 := by decide
theorem c32 : S32x128.ShapeCasts S32x128 := by decide
theorem c64 : S64x128.ShapeCasts S1x64x128 := by decide
theorem c8 : S8x128.ShapeCasts S1x1x8x128 := by decide

/-- Row `s` of the groups of eight of a scratch slot. -/
def ldRow (sl s : ℕ) (hl : sl < 2) (hs : s < 8) (K : FVec F S8x128 .f32 → PG nD τ sig Λ F) : PG nD τ sig Λ F :=
  ld ((B.a11.slice (slotBox sl hl) (fun _ => rfl)).squeeze S64x128 sq64) (rows8 s (rows8_inb hs)) p8 K

/-- The maxima of the groups of eight of `A`, by way of a scratch slot. -/
def foldRows (sl : ℕ) (hl : sl < 2) (A : FVec F S64x128 .f32)
    (K : FVec F S1x64x128 .f32 → FVec F S8x128 .f32 → FVec F S8x128 .f32 → FVec F S8x128 .f32 → FVec F S8x128 .f32 → FVec F S8x128 .f32 →
      FVec F S8x128 .f32 → FVec F S8x128 .f32 → FVec F S8x128 .f32 → PG nD τ sig Λ F) : PG nD τ sig Λ F :=
  ld B.a11 (slotBox sl hl).toLoadRect p64 fun d =>
  st B.a11 (slotBox sl hl) (shapeCast S1x64x128 A c64)
    (View.stores_vmem_bits_univ p64 rfl) <|
  ldRow B sl 0 hl (by decide) fun a0 => ldRow B sl 1 hl (by decide) fun a1 => ldRow B sl 2 hl (by decide) fun a2 =>
  ldRow B sl 3 hl (by decide) fun a3 => ldRow B sl 4 hl (by decide) fun a4 => ldRow B sl 5 hl (by decide) fun a5 =>
  ldRow B sl 6 hl (by decide) fun a6 => ldRow B sl 7 hl (by decide) fun a7 => K d a0 a1 a2 a3 a4 a5 a6 a7

/-- The scales of the fields `f` stored to rows `o …` and columns `p …` of the block of scales, and with the factors to a scratch slot. -/
def putScales {n : ℕ} (a : Memref sig .tc .vmem (Mat 16 n) .f32) (o p sl : ℕ) (ho : o + 8 ≤ 16) (hp : p + 128 ≤ n) (hl : sl < 2)
    (f : IVec S8x128 32) (K : FVec F S8x128 .f32 → FVec F S1x1x8x128 .f32 → FVec F S1x1x8x128 .f32 → PG nD τ sig Λ F) : PG nD τ sig Λ F :=
  ld a (box o p 8 128 ho hp).toLoadRect (mat_pos (by decide) (by decide)) fun d0 =>
  st a (box o p 8 128 ho hp) (scaleOf f)
    (View.stores_vmem_bits_univ (mat_pos (by decide) (by decide)) rfl) <|
  ld B.a12 (slot8 sl 0 hl (by decide)).toLoadRect p118 fun d1 =>
  st B.a12 (slot8 sl 0 hl (by decide)) (shapeCast S1x1x8x128 (invOf f) c8)
    (View.stores_vmem_bits_univ p118 rfl) <|
  ld B.a12 (slot8 sl 1 hl (by decide)).toLoadRect p118 fun d2 =>
  st B.a12 (slot8 sl 1 hl (by decide)) (shapeCast S1x1x8x128 (scaleOf f) c8)
    (View.stores_vmem_bits_univ p118 rfl) <|
  K d0 d1 d2

/-- The factor and the scale of block `b`, from a scratch slot. -/
def getScales (sl b : ℕ) (hl : sl < 2) (hb : b < 8) (K : FVec F S1x1x1x128 .f32 → FVec F S1x1x1x128 .f32 → PG nD τ sig Λ F) : PG nD τ sig Λ F :=
  ld B.a12 (slot1 sl 0 b hl (by decide) hb).toLoadRect p111 fun i =>
  ld B.a12 (slot1 sl 1 b hl (by decide) hb).toLoadRect p111 fun s => K i s

theorem slices_rows {b : ℕ} (hb : b < 8) : S256x128.Slices ![32 * b, 0] S32x128 := by
  revert hb; revert b; decide

/-- Block `b` of a tile `X` of `x` quantised; the tile is at row `256 u` and column `128 c`. -/
def xBlock (u c sl b : ℕ) (hu : u < 2) (hc : 128 * c + 128 ≤ nx) (hl : sl < 2) (hb : b < 8) (X : FVec F S256x128 .bf16)
    (K : FVec F S1x1x1x128 .f32 → FVec F S1x1x1x128 .f32 → FVec F S32x128 .fp8e4m3 → PG nD τ sig Λ F) : PG nD τ sig Λ F :=
  getScales B sl b hl hb fun i s =>
  ld B.a5 (box (256 * u + 32 * b) (128 * c) 32 128 (by omega) hc).toLoadRect (mat_pos (by decide) (by decide)) fun d =>
  st B.a5 (box (256 * u + 32 * b) (128 * c) 32 128 (by omega) hc) (xCodes (32 * b) (slices_rows hb) X i)
    (View.stores_vmem (mat_pos (by decide) (by decide)) (B.w5.storeExact_slice rfl _ (box_packed _ _ (by
      show 4 ∣ 256 * u + 32 * b
      omega) (by decide))) (fun _ => rfl)) <|
  K i s d

/-- What follows a tile of `x`: a program given every value loaded. -/
abbrev XK (nD : Nat) (τ : Topo) (sig : RefSig) (Λ : Labels) (F : FTy → Type) : Type 1 :=
  FVec F S256x128 .bf16 → FVec F S1x64x128 .f32 → FVec F S8x128 .f32 → FVec F S8x128 .f32 → FVec F S8x128 .f32 → FVec F S8x128 .f32 →
  FVec F S8x128 .f32 → FVec F S8x128 .f32 → FVec F S8x128 .f32 → FVec F S8x128 .f32 →
  FVec F S8x128 .f32 → FVec F S1x1x8x128 .f32 → FVec F S1x1x8x128 .f32 →
  FVec F S1x1x1x128 .f32 → FVec F S1x1x1x128 .f32 → FVec F S32x128 .fp8e4m3 →
  FVec F S1x1x1x128 .f32 → FVec F S1x1x1x128 .f32 → FVec F S32x128 .fp8e4m3 →
  FVec F S1x1x1x128 .f32 → FVec F S1x1x1x128 .f32 → FVec F S32x128 .fp8e4m3 →
  FVec F S1x1x1x128 .f32 → FVec F S1x1x1x128 .f32 → FVec F S32x128 .fp8e4m3 →
  FVec F S1x1x1x128 .f32 → FVec F S1x1x1x128 .f32 → FVec F S32x128 .fp8e4m3 →
  FVec F S1x1x1x128 .f32 → FVec F S1x1x1x128 .f32 → FVec F S32x128 .fp8e4m3 →
  FVec F S1x1x1x128 .f32 → FVec F S1x1x1x128 .f32 → FVec F S32x128 .fp8e4m3 →
  FVec F S1x1x1x128 .f32 → FVec F S1x1x1x128 .f32 → FVec F S32x128 .fp8e4m3 →
  FVec F S128x256 .bf16 → PG nD τ sig Λ F

/-- A tile of `x` quantised. -/
def xUnit (u c sl : ℕ) (hu : u < 2) (hc : 128 * c + 128 ≤ nx) (hl : sl < 2) (K : XK nD τ sig Λ F) : PG nD τ sig Λ F :=
  ld B.a1 (box (256 * u) (128 * c) 256 128 (by omega) hc).toLoadRect (mat_pos (by decide) (by decide)) fun X0 =>
  foldRows B sl hl (xMax (shapeCast S256x128 X0 c256)) fun d a0 a1 a2 a3 a4 a5 a6 a7 =>
  putScales B B.a6 (8 * u) (128 * c) sl (by omega) hc hl (fields 0x3B124925#32 (max8 a0 a1 a2 a3 a4 a5 a6 a7)) fun p0 p1 p2 =>
  xBlock B u c sl 0 hu hc hl (by decide) (shapeCast S256x128 X0 c256) fun i0 s0 d0 =>
  xBlock B u c sl 1 hu hc hl (by decide) (shapeCast S256x128 X0 c256) fun i1 s1 d1 =>
  xBlock B u c sl 2 hu hc hl (by decide) (shapeCast S256x128 X0 c256) fun i2 s2 d2 =>
  xBlock B u c sl 3 hu hc hl (by decide) (shapeCast S256x128 X0 c256) fun i3 s3 d3 =>
  xBlock B u c sl 4 hu hc hl (by decide) (shapeCast S256x128 X0 c256) fun i4 s4 d4 =>
  xBlock B u c sl 5 hu hc hl (by decide) (shapeCast S256x128 X0 c256) fun i5 s5 d5 =>
  xBlock B u c sl 6 hu hc hl (by decide) (shapeCast S256x128 X0 c256) fun i6 s6 d6 =>
  xBlock B u c sl 7 hu hc hl (by decide) (shapeCast S256x128 X0 c256) fun i7 s7 d7 =>
  ld B.a9 (box (128 * c) (256 * u) 128 256 hc (by omega)).toLoadRect (mat_pos (by decide) (by decide)) fun t =>
  st B.a9 (box (128 * c) (256 * u) 128 256 hc (by omega)) (shapeCast S128x256 (stackT
      (hatOf (by decide) (xCodes (32 * 0) (slices_rows (by decide)) (shapeCast S256x128 X0 c256) i0) s0)
      (hatOf (by decide) (xCodes (32 * 1) (slices_rows (by decide)) (shapeCast S256x128 X0 c256) i1) s1)
      (hatOf (by decide) (xCodes (32 * 2) (slices_rows (by decide)) (shapeCast S256x128 X0 c256) i2) s2)
      (hatOf (by decide) (xCodes (32 * 3) (slices_rows (by decide)) (shapeCast S256x128 X0 c256) i3) s3)
      (hatOf (by decide) (xCodes (32 * 4) (slices_rows (by decide)) (shapeCast S256x128 X0 c256) i4) s4)
      (hatOf (by decide) (xCodes (32 * 5) (slices_rows (by decide)) (shapeCast S256x128 X0 c256) i5) s5)
      (hatOf (by decide) (xCodes (32 * 6) (slices_rows (by decide)) (shapeCast S256x128 X0 c256) i6) s6)
      (hatOf (by decide) (xCodes (32 * 7) (slices_rows (by decide)) (shapeCast S256x128 X0 c256) i7) s7)) c128)
    (View.stores_vmem (mat_pos (by decide) (by decide)) (B.w9.storeExact_slice rfl _ (box_packed _ _ (by
      show 2 ∣ 128 * c
      omega) (by decide))) (fun _ => rfl)) <|
  K X0 d a0 a1 a2 a3 a4 a5 a6 a7 p0 p1 p2 i0 s0 d0 i1 s1 d1 i2 s2 d2 i3 s3 d3 i4 s4 d4 i5 s5 d5 i6 s6 d6 i7 s7 d7 t

/-- Block `b` of a tile `Y` of `dy` quantised; the tile is at row `256 u` and column `128 c`. -/
def yBlock (u c sl b : ℕ) (hu : u < 2) (hc : 128 * c + 128 ≤ ny) (hl : sl < 2) (hb : b < 8) (Y : FVec F S256x128 .f32)
    (K : FVec F S1x1x1x128 .f32 → FVec F S1x1x1x128 .f32 → FVec F S32x128 .fp8e5m2 → FVec F S32x128 .bf16 → PG nD τ sig Λ F) : PG nD τ sig Λ F :=
  getScales B sl b hl hb fun i s =>
  ld B.a7 (box (256 * u + 32 * b) (128 * c) 32 128 (by omega) hc).toLoadRect (mat_pos (by decide) (by decide)) fun d =>
  st B.a7 (box (256 * u + 32 * b) (128 * c) 32 128 (by omega) hc) (yCodes (32 * b) (slices_rows hb) Y i)
    (View.stores_vmem (mat_pos (by decide) (by decide)) (B.w7.storeExact_slice rfl _ (box_packed _ _ (by
      show 4 ∣ 256 * u + 32 * b
      omega) (by decide))) (fun _ => rfl)) <|
  ld B.a10 (box (256 * u + 32 * b) (128 * c) 32 128 (by omega) hc).toLoadRect (mat_pos (by decide) (by decide)) fun d' =>
  st B.a10 (box (256 * u + 32 * b) (128 * c) 32 128 (by omega) hc)
    (shapeCast S32x128 (hatOf (by decide) (yCodes (32 * b) (slices_rows hb) Y i) s) c32)
    (View.stores_vmem (mat_pos (by decide) (by decide)) (B.w10.storeExact_slice rfl _ (box_packed _ _ (by
      show 2 ∣ 256 * u + 32 * b
      omega) (by decide))) (fun _ => rfl)) <|
  K i s d d'

/-- What follows a tile of `dy`: a program given every value loaded. -/
abbrev YK (nD : Nat) (τ : Topo) (sig : RefSig) (Λ : Labels) (F : FTy → Type) (w : ℕ) : Type 1 :=
  FVec F (Mat 256 w) .f32 → FVec F S256x128 .fp8e5m2 → FVec F S1x64x128 .f32 → FVec F S8x128 .f32 → FVec F S8x128 .f32 → FVec F S8x128 .f32 →
  FVec F S8x128 .f32 → FVec F S8x128 .f32 → FVec F S8x128 .f32 → FVec F S8x128 .f32 → FVec F S8x128 .f32 →
  FVec F S8x128 .f32 → FVec F S1x1x8x128 .f32 → FVec F S1x1x8x128 .f32 →
  FVec F S1x1x1x128 .f32 → FVec F S1x1x1x128 .f32 → FVec F S32x128 .fp8e5m2 → FVec F S32x128 .bf16 →
  FVec F S1x1x1x128 .f32 → FVec F S1x1x1x128 .f32 → FVec F S32x128 .fp8e5m2 → FVec F S32x128 .bf16 →
  FVec F S1x1x1x128 .f32 → FVec F S1x1x1x128 .f32 → FVec F S32x128 .fp8e5m2 → FVec F S32x128 .bf16 →
  FVec F S1x1x1x128 .f32 → FVec F S1x1x1x128 .f32 → FVec F S32x128 .fp8e5m2 → FVec F S32x128 .bf16 →
  FVec F S1x1x1x128 .f32 → FVec F S1x1x1x128 .f32 → FVec F S32x128 .fp8e5m2 → FVec F S32x128 .bf16 →
  FVec F S1x1x1x128 .f32 → FVec F S1x1x1x128 .f32 → FVec F S32x128 .fp8e5m2 → FVec F S32x128 .bf16 →
  FVec F S1x1x1x128 .f32 → FVec F S1x1x1x128 .f32 → FVec F S32x128 .fp8e5m2 → FVec F S32x128 .bf16 →
  FVec F S1x1x1x128 .f32 → FVec F S1x1x1x128 .f32 → FVec F S32x128 .fp8e5m2 → FVec F S32x128 .bf16 →
  PG nD τ sig Λ F

/-- The codes of a tile of `dy` at the scales `S`. -/
abbrev yVals (Y0 : FVec F S256x128 .fp8e5m2) (S : FVec F S256x128 .f32) : FVec F S256x128 .f32 :=
  mulf (extf .f32 (shapeCast S256x128 Y0 c256) (by decide)) S

/-- A tile of `dy` quantised; `S` gives the scales its codes came with, from lanes `p …` of the scales of `dy`, `w` of them. -/
def yUnit (u c sl p w : ℕ) (hu : u < 2) (hc : 128 * c + 128 ≤ ny) (hl : sl < 2) (hp : p + w ≤ ns) (hw : 0 < w)
    (S : FVec F (Mat 256 w) .f32 → FVec F S256x128 .f32) (K : YK nD τ sig Λ F w) : PG nD τ sig Λ F :=
  ld B.a3 (box (256 * u) p 256 w (by omega) hp).toLoadRect (mat_pos (by decide) hw) fun X0 =>
  ld B.a2 (box (256 * u) (128 * c) 256 128 (by omega) hc).toLoadRect (mat_pos (by decide) (by decide)) fun Y0 =>
  foldRows B sl hl (yMax (yVals Y0 (S X0))) fun d a0 a1 a2 a3 a4 a5 a6 a7 =>
  putScales B B.a8 (8 * u) (128 * c) sl (by omega) hc hl (fields 0x37924925#32 (max8 a0 a1 a2 a3 a4 a5 a6 a7)) fun p0 p1 p2 =>
  yBlock B u c sl 0 hu hc hl (by decide) (yVals Y0 (S X0)) fun i0 s0 d0 e0 =>
  yBlock B u c sl 1 hu hc hl (by decide) (yVals Y0 (S X0)) fun i1 s1 d1 e1 =>
  yBlock B u c sl 2 hu hc hl (by decide) (yVals Y0 (S X0)) fun i2 s2 d2 e2 =>
  yBlock B u c sl 3 hu hc hl (by decide) (yVals Y0 (S X0)) fun i3 s3 d3 e3 =>
  yBlock B u c sl 4 hu hc hl (by decide) (yVals Y0 (S X0)) fun i4 s4 d4 e4 =>
  yBlock B u c sl 5 hu hc hl (by decide) (yVals Y0 (S X0)) fun i5 s5 d5 e5 =>
  yBlock B u c sl 6 hu hc hl (by decide) (yVals Y0 (S X0)) fun i6 s6 d6 e6 =>
  yBlock B u c sl 7 hu hc hl (by decide) (yVals Y0 (S X0)) fun i7 s7 d7 e7 =>
  K X0 Y0 d a0 a1 a2 a3 a4 a5 a6 a7 p0 p1 p2 i0 s0 d0 e0 i1 s1 d1 e1 i2 s2 d2 e2 i3 s3 d3 e3 i4 s4 d4 e4 i5 s5 d5 e5 i6 s6 d6 e6 i7 s7 d7 e7

/-- Columns `p …` of the weight gradient, `w` of them, get the product of the two operands added. -/
def addChunk (p w : ℕ) (hp : p + w ≤ ny) (hx : 0 < nx) (hw : 0 < w) (d : DotDims (Mat nx 512) (Mat 512 w) (Mat nx w))
    (h : (Mat nx w).ShapeCasts (Mat nx w))
    (K : FVec F (Mat nx w) .f32 → FVec F (Mat nx 512) .bf16 → FVec F (Mat 512 w) .bf16 → FVec F (Mat nx w) .f32 → PG nD τ sig Λ F) : PG nD τ sig Λ F :=
  ld B.a4 (box 0 p nx w (by omega) hp).toLoadRect (mat_pos hx hw) fun D =>
  ld B.a9 (box 0 0 nx 512 (by omega) (by omega)).toLoadRect (mat_pos hx (by decide)) fun T =>
  ld B.a10 (box 0 p 512 w (by omega) hp).toLoadRect (mat_pos (by decide) hw) fun H =>
  ld B.a4 (box 0 p nx w (by omega) hp).toLoadRect (mat_pos hx hw) fun D' =>
  st B.a4 (box 0 p nx w (by omega) hp) (addf (shapeCast (Mat nx w) D h) (matmul d none T H (constant (Mat nx w) .f32 0x00000000#32)))
    (View.stores_vmem_bits_univ (mat_pos hx hw) rfl) <|
  K D T H D'

end Mx

end
-- ==== Proof.Steps.lean ====
/-
  What each piece of a grid step does to the buffers.
-/
module

public import proofs.«01_k».proof.Proof.Units
public import Idealize.ShloMosaic.Lib.ValueLayout

@[expose] public section

noncomputable section

namespace Mx

open Idealize.ShloMosaic Idealize.ShloMosaic.TcCoe Idealize.ShloMosaic.ValueIdx
open Idealize.SL
open Idealize.SL.RA Idealize.SL.Sem Idealize.SL.ProofMode
open Idealize.SL.BI (sProp bigSep)
open scoped Idealize.SL.BI
open Idealize.SL.BI.BIBase Idealize.SL.BI.Laws

variable {F : FTy → Type} [FloatOps F]

/-! ## What the blocks end with -/

section
variable {α : Type} {n m : ℕ} [NeZero n] [NeZero m]

/-- The tile of 256 rows and 128 columns at row `256 u` and column `128 c`. -/
def tile (Q : (Mat n m).Idx → α) (u c : ℕ) : S256x128.Idx → α :=
  fun y => Q (ix2 (Fin.ofNat n (256 * u + (y 0).val)) (Fin.ofNat m (128 * c + (y 1).val)))

end

/-- Row `b` of eight, as it is loaded from a scratch slot. -/
def rowOf (v : FVec F S8x128 .f32) (b : Fin 8) : FVec F S1x1x1x128 .f32 := fun y => v (ix2 b (y 3))

/-- The maxima of the groups of eight of `A`. -/
def groupMax (A : FVec F S64x128 .f32) : FVec F S8x128 .f32 :=
  let r (s : ℕ) (h : s < 8) : FVec F S8x128 .f32 := fun y => A ((rows8 s (rows8_inb h)).idx y)
  max8 (r 0 (by decide)) (r 1 (by decide)) (r 2 (by decide)) (r 3 (by decide)) (r 4 (by decide)) (r 5 (by decide)) (r 6 (by decide)) (r 7 (by decide))

/-- The exponent fields of a tile of `x` … -/
def xField (X : FVec F S256x128 .bf16) : IVec S8x128 32 := fields 0x3B124925#32 (groupMax (xMax X))
/-- … and of a tile of `dy`. -/
def yField (Y : FVec F S256x128 .f32) : IVec S8x128 32 := fields 0x37924925#32 (groupMax (yMax Y))

/-- The codes of block `b` of a tile of `x` … -/
def xq (X : FVec F S256x128 .bf16) (b : Fin 8) : FVec F S32x128 .fp8e4m3 :=
  xCodes (32 * b.val) (slices_rows b.2) X (rowOf (invOf (xField X)) b)
/-- … and the values they stand for. -/
def xh (X : FVec F S256x128 .bf16) (b : Fin 8) : FVec F S32x128 .bf16 :=
  hatOf (by decide) (xq X b) (rowOf (scaleOf (xField X)) b)
/-- The values of a whole tile, transposed. -/
def xt (X : FVec F S256x128 .bf16) : FVec F S128x256 .bf16 :=
  stackT (xh X 0) (xh X 1) (xh X 2) (xh X 3) (xh X 4) (xh X 5) (xh X 6) (xh X 7)

/-- The codes of block `b` of a tile of `dy` … -/
def yq (Y : FVec F S256x128 .f32) (b : Fin 8) : FVec F S32x128 .fp8e5m2 :=
  yCodes (32 * b.val) (slices_rows b.2) Y (rowOf (invOf (yField Y)) b)
/-- … and the values they stand for. -/
def yh (Y : FVec F S256x128 .f32) (b : Fin 8) : FVec F S32x128 .bf16 :=
  hatOf (by decide) (yq Y b) (rowOf (scaleOf (yField Y)) b)

section
variable {nx ny ns : ℕ}

/-- The block of 32 rows an element of a block of codes lies in, in the order they are written. -/
def blk (i j : ℕ) : ℕ := 8 * (2 * (j / 128) + i / 256) + i % 256 / 32

/-- The left operand of the product. -/
def Q9 [NeZero nx] (Q1 : (Mat 512 nx).Idx → F .bf16) : (Mat nx 512).Idx → F .bf16 := fun i =>
  xt (tile Q1 ((i 1).val / 256) ((i 0).val / 128)) (ix2 (Fin.ofNat 128 (i 0).val) (Fin.ofNat 256 (i 1).val))

/-- A tile of `dy`: its codes at their scales. -/
def yTile [NeZero ny] (Q2 : (Mat 512 ny).Idx → F .fp8e5m2) (S : ℕ → ℕ → FVec F S256x128 .f32) (u c : ℕ) : FVec F S256x128 .f32 :=
  yVals (tile Q2 u c) (S u c)
/-- The right operand of the product. -/
def Q10 [NeZero ny] (Q2 : (Mat 512 ny).Idx → F .fp8e5m2) (S : ℕ → ℕ → FVec F S256x128 .f32) : (Mat 512 ny).Idx → F .bf16 := fun i =>
  yh (yTile Q2 S ((i 0).val / 256) ((i 1).val / 128)) (Fin.ofNat 8 ((i 0).val % 256 / 32))
    (ix2 (Fin.ofNat 32 (i 0).val) (Fin.ofNat 128 (i 1).val))

/-- The weight gradient with its first `j` columns at `G`, the others still at `D`. -/
def upTo (D G : (Mat nx ny).Idx → F .f32) (j : ℕ) : (Mat nx ny).Idx → F .f32 := fun i => if (i 1).val < j then G i else D i

theorem upTo_zero {D G : (Mat nx ny).Idx → F .f32} : upTo D G 0 = D := by
  funext i; exact if_neg (Nat.not_lt_zero _)

end

variable {nD : Nat} {τ : Topo} {sig : RefSig} {Λ : Labels} {nx ny ns : ℕ} (B : Bufs sig nx ny ns)
variable {Ix : Type} [DecidableEq Ix] {Name : Type} [DecidableEq Name] {U : Type} [URA U] {Lvl : Type}
local notation "𝕄" => MT nD τ sig Ix (Elt F) Name U Lvl

/-- The core owns the memref, at some contents. -/
def anyAt (c : Thread nD τ) {sp : Space} {s : Shape} {e : EltTy} (m : Memref sig c.2.kind sp s e) : sProp 𝕄 :=
  iprop(∃ f, (m.view.loc c ↦[m.view.set]{fullShare} f))

/-- The buffers after `n` tiles of `x` and `k` of `dy`; the weight gradient's block is at `D` if `A` is true. -/
def St [NeZero nx] [NeZero ny] (c : Dev nD) (A : Prop) (Q1 : (Mat 512 nx).Idx → F .bf16) (Q2 : (Mat 512 ny).Idx → F .fp8e5m2)
    (Q3 : (Mat 512 ns).Idx → F .f32) (S : ℕ → ℕ → FVec F S256x128 .f32) (n k : ℕ) (D : (Mat nx ny).Idx → F .f32) : sProp 𝕄 :=
  iprop(held (c : Thread nD τ) B.a1 (fun _ => True) Q1
    ∗ held (c : Thread nD τ) B.a2 (fun _ => True) Q2
    ∗ held (c : Thread nD τ) B.a3 (fun _ => True) Q3
    ∗ held (c : Thread nD τ) B.a4 (fun _ => A) D
    ∗ anyAt (c : Thread nD τ) B.a5 ∗ anyAt (c : Thread nD τ) B.a6 ∗ anyAt (c : Thread nD τ) B.a7 ∗ anyAt (c : Thread nD τ) B.a8
    ∗ held (c : Thread nD τ) B.a9 (fun i => 2 * ((i 0).val / 128) + (i 1).val / 256 < n) (Q9 Q1)
    ∗ held (c : Thread nD τ) B.a10 (fun i => blk (i 0).val (i 1).val < 8 * k) (Q10 Q2 S)
    ∗ anyAt (c : Thread nD τ) B.a11 ∗ anyAt (c : Thread nD τ) B.a12)

section
variable [Preorder Lvl] {defs : Defs nD τ sig (Elt F) Λ} (𝒱 : Variants) (c : Dev nD) (bd : Option 𝒱.V) (E : Set Name)
variable [NeZero nx] [NeZero ny] {A : Prop} {Q1 : (Mat 512 nx).Idx → F .bf16} {Q2 : (Mat 512 ny).Idx → F .fp8e5m2}
    {Q3 : (Mat 512 ns).Idx → F .f32} {S : ℕ → ℕ → FVec F S256x128 .f32} {n k : ℕ} {D G : (Mat nx ny).Idx → F .f32}
variable {Po : PUnit → sProp (MT nD τ sig Ix (Elt F) Name U Lvl)} {R : sProp (MT nD τ sig Ix (Elt F) Name U Lvl)}

theorem mod2 (n : ℕ) : n % 2 < 2 := Nat.mod_lt _ (by decide)

theorem anyAt_held {s : Shape} {e : EltTy} {m : Memref sig .tc .vmem s e} (Q : s.Idx → Elt F e) :
    (anyAt (c : Thread nD τ) m : sProp 𝕄) ⊢ held (c : Thread nD τ) m (fun _ => False) Q := by
  unfold anyAt held
  iintro ⟨%f, H⟩
  iexists f
  isplitr
  · ipureintro; exact fun _ h => h.elim
  · iexact H

theorem any_open {s : Shape} {e : EltTy} {m : Memref sig .tc .vmem s e} :
    (anyAt (c : Thread nD τ) m : sProp 𝕄) ⊢ iprop(∃ Q : s.Idx → Elt F e, held (c : Thread nD τ) m (fun _ => False) Q) := by
  unfold anyAt held
  iintro ⟨%f, H⟩
  iexists (fun i => m.view.read (Elt F) f i)
  iexists f
  isplitr
  · ipureintro; exact fun _ h => h.elim
  · iexact H

theorem held_anyAt {s : Shape} {e : EltTy} {m : Memref sig .tc .vmem s e} {P : s.Idx → Prop} {Q : s.Idx → Elt F e} :
    (held (c : Thread nD τ) m P Q : sProp 𝕄) ⊢ anyAt (c : Thread nD τ) m := by
  unfold anyAt held
  iintro ⟨%f, -, H⟩
  iexists f
  iexact H

/-- A load of values that are all known, named. -/
theorem wp_ld_eq {s : Shape} {e : EltTy} {m : Memref sig .tc .vmem s e} {r : LoadRect s} {h : 0 < r.shape.numel}
    {k : (r.shape.Idx → Elt F e) → PG nD τ sig Λ F} {P : s.Idx → Prop} {Q : s.Idx → Elt F e} (v : r.shape.Idx → Elt F e)
    (hP : ∀ y, P (r.idx y)) (hv : ∀ y, Q (r.idx y) = v y) :
    (held (c : Thread nD τ) m P Q : sProp 𝕄)
      ⊢ iprop((held (c : Thread nD τ) m P Q -∗ wp frame (wpE defs 𝒱 (c : Thread nD τ) bd) E (k v) Po)
        -∗ wp frame (wpE defs 𝒱 (c : Thread nD τ) bd) E (ld m r h k) Po) := by
  have e' : v = fun y => Q (r.idx y) := funext fun y => (hv y).symm
  subst e'
  exact wp_ld (defs := defs) 𝒱 (c : Thread nD τ) bd E hP

theorem wp_ld_squeeze_eq {s : Shape} {e : EltTy} {m : Memref sig .tc .vmem s e} {r : Rect s} {hr : ∀ a, r.stride a = 1} {t : Shape}
    {hs : r.shape.Squeezes t} {X : LoadRect t} {h : 0 < X.shape.numel}
    {k : (X.shape.Idx → Elt F e) → PG nD τ sig Λ F} {P : s.Idx → Prop} {Q : s.Idx → Elt F e} (v : X.shape.Idx → Elt F e)
    (hP : ∀ y, P (r.emb (Shape.reshapeEquiv hs.numel_eq (X.idx y)))) (hv : ∀ y, Q (r.emb (Shape.reshapeEquiv hs.numel_eq (X.idx y))) = v y) :
    (held (c : Thread nD τ) m P Q : sProp 𝕄)
      ⊢ iprop((held (c : Thread nD τ) m P Q -∗ wp frame (wpE defs 𝒱 (c : Thread nD τ) bd) E (k v) Po)
        -∗ wp frame (wpE defs 𝒱 (c : Thread nD τ) bd) E (ld ((m.slice r hr).squeeze t hs) X h k) Po) := by
  have e' : v = fun y => Q (r.emb (Shape.reshapeEquiv hs.numel_eq (X.idx y))) := funext fun y => (hv y).symm
  subst e'
  exact wp_ld_squeeze (defs := defs) 𝒱 (c : Thread nD τ) bd E hP

/-- A store, of values that are all known afterwards. -/
theorem wp_st_eq {s : Shape} {e : EltTy} {m : Memref sig .tc .vmem s e} {r : Rect s} {w : r.shape.Idx → Elt F e}
    {hx : (m.access r).Stores Finset.univ} {k : PG nD τ sig Λ F} {P : s.Idx → Prop} {Q : s.Idx → Elt F e}
    (P' : s.Idx → Prop) (Q' : s.Idx → Elt F e) (hw : ∀ y, P' (r.emb y) → Q' (r.emb y) = w y)
    (ho : ∀ i, P' i → (∀ y, r.emb y ≠ i) → P i ∧ Q i = Q' i) :
    (held (c : Thread nD τ) m P Q : sProp 𝕄)
      ⊢ iprop((held (c : Thread nD τ) m P' Q' -∗ wp frame (wpE defs 𝒱 (c : Thread nD τ) bd) E k Po)
        -∗ wp frame (wpE defs 𝒱 (c : Thread nD τ) bd) E (st m r w hx k) Po) :=
  wp_st (defs := defs) 𝒱 (c : Thread nD τ) bd E (hx := hx) (hm := .inl rfl) (k := fun _ => k) hw ho

/-- A load, of a value not used, and a store into a buffer of which nothing is known. -/
theorem any_put {s : Shape} {e : EltTy} {m : Memref sig .tc .vmem s e} {r : Rect s} {hp : 0 < r.shape.numel} {w : r.shape.Idx → Elt F e}
    {hx : (m.access r).Stores Finset.univ} {K : (r.shape.Idx → Elt F e) → PG nD τ sig Λ F} :
    (anyAt (c : Thread nD τ) m : sProp 𝕄)
      ⊢ iprop((∀ d, anyAt (c : Thread nD τ) m -∗ wp frame (wpE defs 𝒱 (c : Thread nD τ) bd) E (K d) Po)
        -∗ wp frame (wpE defs 𝒱 (c : Thread nD τ) bd) E (ld m r.toLoadRect hp fun d => st m r w hx (K d)) Po) := by
  iintro H K
  ihave H := (any_open (F := F) c) $$ H
  icases H with ⟨%Q, H⟩
  iapply (wp_skip (defs := defs) 𝒱 (c : Thread nD τ) bd E (Po := Po)) $$ H
  iintro %d H
  iapply (wp_st_eq (defs := defs) 𝒱 c bd E (Po := Po) (fun _ => False) Q (fun _ h => h.elim) (fun _ h => h.elim)) $$ H
  iintro H
  iapply K
  iapply (held_anyAt (F := F) c) $$ H

/-- What a scratch slot holds of the scales and factors of the fields `f`. -/
def Q12 (f : IVec S8x128 32) : S2x2x8x128.Idx → F .f32 := fun i =>
  if (i 1).val = 0 then invOf f (ix2 (i 2) (i 3)) else scaleOf f (ix2 (i 2) (i 3))

section
variable {α : Type}

theorem slot_row (sl : ℕ) (hl : sl < 2) (V : S64x128.Idx → α) (y : S1x64x128.Idx) :
    V (ix2 ((slotBox sl hl).emb y 1) ((slotBox sl hl).emb y 2)) = shapeCast S1x64x128 V c64 y := by
  refine congrArg V (Shape.reshapeEquiv_eq_of_rowMajor _ ?_).symm
  rw [Shape.rowMajor_val_two, Shape.rowMajor_val_three]
  have h0 : (y 0).val < 1 := (y 0).isLt
  show (0 + 1 * (y 1).val) * 128 + (0 + 1 * (y 2).val) = ((y 0).val * 64 + (y 1).val) * 128 + (y 2).val
  omega

theorem slot_in (sl : ℕ) (hl : sl < 2) (z : S64x128.Idx) (h : S64x128.numel = S1x64x128.numel) :
    Shape.reshapeEquiv h z = ix3 (0 : Fin 1) (z 0) (z 1) := by
  refine Shape.reshapeEquiv_eq_of_rowMajor h ((Shape.rowMajor_val_three (d := ![1, 64, 128]) _).trans
    (Eq.trans ?_ (Shape.rowMajor_val_two (d := ![64, 128]) _).symm))
  show (0 * 64 + (z 0).val) * 128 + (z 1).val = (z 0).val * 128 + (z 1).val
  omega

theorem slot_sq (sl : ℕ) (hl : sl < 2) (V : S64x128.Idx → α) (z : S64x128.Idx) (h : S64x128.numel = (slotBox sl hl).shape.numel) :
    V (ix2 ((slotBox sl hl).emb (Shape.reshapeEquiv h z) 1) ((slotBox sl hl).emb (Shape.reshapeEquiv h z) 2)) = V z := by
  have e : Shape.reshapeEquiv h z = ix3 (0 : Fin 1) (z 0) (z 1) := slot_in sl hl z h
  rw [e]
  congr 1
  funext a
  match a with
  | ⟨0, _⟩ =>
    refine Fin.ext ?_
    show 0 + 1 * (z 0).val = (z 0).val
    omega
  | ⟨1, _⟩ =>
    refine Fin.ext ?_
    show 0 + 1 * (z 1).val = (z 1).val
    omega

theorem slot_sl (sl : ℕ) (hl : sl < 2) (z : S1x64x128.Idx) : ((slotBox sl hl).emb z 0).val = sl := by
  have h0 : (z 0).val < 1 := (z 0).isLt
  show sl + 1 * (z 0).val = sl
  omega

theorem slot_out {sl : ℕ} {hl : sl < 2} {i : S2x64x128.Idx} (h : (i 0).val = sl) (hn : ∀ y, (slotBox sl hl).emb y ≠ i) : False := by
  refine hn (ix3 (0 : Fin 1) (i 1) (i 2)) ?_
  funext a
  match a with
  | ⟨0, _⟩ =>
    refine Fin.ext ?_
    show sl + 1 * 0 = (i 0).val
    omega
  | ⟨1, _⟩ =>
    refine Fin.ext ?_
    show 0 + 1 * (i 1).val = (i 1).val
    omega
  | ⟨2, _⟩ =>
    refine Fin.ext ?_
    show 0 + 1 * (i 2).val = (i 2).val
    omega

theorem slot8_row (sl t : ℕ) (hl : sl < 2) (ht : t < 2) (V : S8x128.Idx → α) (y : S1x1x8x128.Idx) :
    V (ix2 ((slot8 sl t hl ht).emb y 2) ((slot8 sl t hl ht).emb y 3)) = shapeCast S1x1x8x128 V c8 y := by
  refine congrArg V (Shape.reshapeEquiv_eq_of_rowMajor _ ?_).symm
  rw [Shape.rowMajor_val_two, Shape.rowMajor_val_four]
  have h0 : (y 0).val < 1 := (y 0).isLt
  have h1 : (y 1).val < 1 := (y 1).isLt
  show (0 + 1 * (y 2).val) * 128 + (0 + 1 * (y 3).val) = (((y 0).val * 1 + (y 1).val) * 8 + (y 2).val) * 128 + (y 3).val
  omega

theorem slot8_t (sl t : ℕ) (hl : sl < 2) (ht : t < 2) (y : S1x1x8x128.Idx) : ((slot8 sl t hl ht).emb y 1).val = t := by
  have h0 : (y 1).val < 1 := (y 1).isLt
  show t + 1 * (y 1).val = t
  omega

theorem slot8_out {sl t : ℕ} {hl : sl < 2} {ht : t < 2} {i : S2x2x8x128.Idx} (h : (i 0).val = sl) (h' : (i 1).val = t)
    (hn : ∀ y, (slot8 sl t hl ht).emb y ≠ i) : False := by
  refine hn (ix4 (0 : Fin 1) (0 : Fin 1) (i 2) (i 3)) ?_
  funext a
  match a with
  | ⟨0, _⟩ =>
    refine Fin.ext ?_
    show sl + 1 * 0 = (i 0).val
    omega
  | ⟨1, _⟩ =>
    refine Fin.ext ?_
    show t + 1 * 0 = (i 1).val
    omega
  | ⟨2, _⟩ =>
    refine Fin.ext ?_
    show 0 + 1 * (i 2).val = (i 2).val
    omega
  | ⟨3, _⟩ =>
    refine Fin.ext ?_
    show 0 + 1 * (i 3).val = (i 3).val
    omega

theorem box_out {a b o p m n : ℕ} {h : o + m ≤ a} {h' : p + n ≤ b} {i : (Mat a b).Idx} (h0 : o ≤ (i 0).val) (h1 : (i 0).val < o + m)
    (h2 : p ≤ (i 1).val) (h3 : (i 1).val < p + n) (hn : ∀ y, (box (a := a) (b := b) o p m n h h').emb y ≠ i) : False := by
  refine hn (ix2 (⟨(i 0).val - o, by omega⟩ : Fin m) (⟨(i 1).val - p, by omega⟩ : Fin n)) ?_
  funext x
  match x with
  | ⟨0, _⟩ =>
    refine Fin.ext ?_
    show o + 1 * ((i 0).val - o) = (i 0).val
    omega
  | ⟨1, _⟩ =>
    refine Fin.ext ?_
    show p + 1 * ((i 1).val - p) = (i 1).val
    omega

theorem tile_box {a b : ℕ} [NeZero a] [NeZero b] (Q : (Mat a b).Idx → α) (u q : ℕ) (h : 256 * u + 256 ≤ a) (h' : 128 * q + 128 ≤ b) (y : S256x128.Idx) :
    Q ((box (256 * u) (128 * q) 256 128 h h').toLoadRect.idx y) = tile Q u q y := by
  unfold tile
  have h0 : (y 0).val < 256 := (y 0).isLt
  have h1 : (y 1).val < 128 := (y 1).isLt
  congr 1
  funext x
  match x with
  | ⟨0, _⟩ =>
    refine Fin.ext ?_
    show 256 * u + 1 * (y 0).val = (256 * u + (y 0).val) % a
    rw [Nat.mod_eq_of_lt (by omega)]; omega
  | ⟨1, _⟩ =>
    refine Fin.ext ?_
    show 128 * q + 1 * (y 1).val = (128 * q + (y 1).val) % b
    rw [Nat.mod_eq_of_lt (by omega)]; omega

end

theorem Q9_at {Q1 : (Mat 512 nx).Idx → F .bf16} {u q : ℕ} {i : (Mat nx 512).Idx} (y : S128x256.Idx) (h0 : (i 0).val = 128 * q + (y 0).val)
    (h1 : (i 1).val = 256 * u + (y 1).val) : Q9 Q1 i = xt (tile Q1 u q) y := by
  have hy0 : (y 0).val < 128 := (y 0).isLt
  have hy1 : (y 1).val < 256 := (y 1).isLt
  have e0 : (i 1).val / 256 = u := by omega
  have e1 : (i 0).val / 128 = q := by omega
  unfold Q9
  rw [e0, e1]
  congr 1
  funext x
  match x with
  | ⟨0, _⟩ =>
    refine Fin.ext ?_
    show (i 0).val % 128 = (y 0).val
    omega
  | ⟨1, _⟩ =>
    refine Fin.ext ?_
    show (i 1).val % 256 = (y 1).val
    omega

theorem Q10_at {u q b : ℕ} (hb : b < 8) {i : (Mat 512 ny).Idx} (y : S32x128.Idx) (h0 : (i 0).val = 256 * u + 32 * b + (y 0).val)
    (h1 : (i 1).val = 128 * q + (y 1).val) : Q10 Q2 S i = yh (yTile Q2 S u q) ⟨b, hb⟩ y := by
  have hy0 : (y 0).val < 32 := (y 0).isLt
  have hy1 : (y 1).val < 128 := (y 1).isLt
  have e0 : (i 0).val / 256 = u := by omega
  have e1 : (i 1).val / 128 = q := by omega
  have e2 : Fin.ofNat 8 ((i 0).val % 256 / 32) = ⟨b, hb⟩ := Fin.ext (by
    show (i 0).val % 256 / 32 % 8 = b
    omega)
  unfold Q10
  rw [e0, e1, e2]
  congr 1
  funext x
  match x with
  | ⟨0, _⟩ =>
    refine Fin.ext ?_
    show (i 0).val % 32 = (y 0).val
    omega
  | ⟨1, _⟩ =>
    refine Fin.ext ?_
    show (i 1).val % 128 = (y 1).val
    omega

/-- Row `s` of the groups of eight of `V`. -/
def row8 (V : FVec F S64x128 .f32) (s : Fin 8) : FVec F S8x128 .f32 := fun y => V ((rows8 s.val (rows8_inb s.2)).idx y)

theorem fold_spec (sl : ℕ) (hl : sl < 2) (V : FVec F S64x128 .f32)
    {K : FVec F S1x64x128 .f32 → FVec F S8x128 .f32 → FVec F S8x128 .f32 → FVec F S8x128 .f32 → FVec F S8x128 .f32 → FVec F S8x128 .f32 →
      FVec F S8x128 .f32 → FVec F S8x128 .f32 → FVec F S8x128 .f32 → PG nD τ sig Λ F} :
    (anyAt (c : Thread nD τ) B.a11 : sProp 𝕄)
      ⊢ iprop((∀ d, anyAt (c : Thread nD τ) B.a11 -∗ wp frame (wpE defs 𝒱 (c : Thread nD τ) bd) E
          (K d (row8 V 0) (row8 V 1) (row8 V 2) (row8 V 3) (row8 V 4) (row8 V 5) (row8 V 6) (row8 V 7)) Po)
        -∗ wp frame (wpE defs 𝒱 (c : Thread nD τ) bd) E (foldRows B sl hl V K) Po) := by
  iintro H K
  unfold foldRows ldRow
  ihave H := (anyAt_held (F := F) c (fun i : S2x64x128.Idx => V (ix2 (i 1) (i 2)))) $$ H
  iapply (wp_skip (defs := defs) 𝒱 (c : Thread nD τ) bd E (Po := Po)) $$ H
  iintro %d H
  iapply (wp_st_eq (defs := defs) 𝒱 c bd E (Po := Po) (fun i => (i 0).val = sl) (fun i : S2x64x128.Idx => V (ix2 (i 1) (i 2)))
    (fun y _ => slot_row sl hl V y) (fun i hi h => (slot_out hi h).elim)) $$ H
  iintro H
  have hP : ∀ (s : ℕ) (hs : s < 8) (y : S8x128.Idx), (((slotBox sl hl).emb (Shape.reshapeEquiv sq64.numel_eq ((rows8 s (rows8_inb hs)).idx y))) 0).val = sl :=
    fun s hs y => slot_sl sl hl _
  have hV : ∀ (s : ℕ) (hs : s < 8) (y : S8x128.Idx), V (ix2 (((slotBox sl hl).emb (Shape.reshapeEquiv sq64.numel_eq ((rows8 s (rows8_inb hs)).idx y))) 1)
      (((slotBox sl hl).emb (Shape.reshapeEquiv sq64.numel_eq ((rows8 s (rows8_inb hs)).idx y))) 2)) = row8 V ⟨s, hs⟩ y :=
    fun s hs y => slot_sq sl hl V _ _
  iapply (wp_ld_squeeze_eq (defs := defs) 𝒱 c bd E (Po := Po) (row8 V 0) (hP 0 (by decide)) (hV 0 (by decide))) $$ H
  iintro H
  iapply (wp_ld_squeeze_eq (defs := defs) 𝒱 c bd E (Po := Po) (row8 V 1) (hP 1 (by decide)) (hV 1 (by decide))) $$ H
  iintro H
  iapply (wp_ld_squeeze_eq (defs := defs) 𝒱 c bd E (Po := Po) (row8 V 2) (hP 2 (by decide)) (hV 2 (by decide))) $$ H
  iintro H
  iapply (wp_ld_squeeze_eq (defs := defs) 𝒱 c bd E (Po := Po) (row8 V 3) (hP 3 (by decide)) (hV 3 (by decide))) $$ H
  iintro H
  iapply (wp_ld_squeeze_eq (defs := defs) 𝒱 c bd E (Po := Po) (row8 V 4) (hP 4 (by decide)) (hV 4 (by decide))) $$ H
  iintro H
  iapply (wp_ld_squeeze_eq (defs := defs) 𝒱 c bd E (Po := Po) (row8 V 5) (hP 5 (by decide)) (hV 5 (by decide))) $$ H
  iintro H
  iapply (wp_ld_squeeze_eq (defs := defs) 𝒱 c bd E (Po := Po) (row8 V 6) (hP 6 (by decide)) (hV 6 (by decide))) $$ H
  iintro H
  iapply (wp_ld_squeeze_eq (defs := defs) 𝒱 c bd E (Po := Po) (row8 V 7) (hP 7 (by decide)) (hV 7 (by decide))) $$ H
  iintro H
  ihave H := (held_anyAt (F := F) c) $$ H
  iapply K $$ %d H

/-- The scales stored, the factors and scales put in a scratch slot. -/
theorem put_spec {N : ℕ} {a : Memref sig .tc .vmem (Mat 16 N) .f32} {o p sl : ℕ} {ho : o + 8 ≤ 16} {hp : p + 128 ≤ N} {hl : sl < 2}
    {f : IVec S8x128 32} {K : FVec F S8x128 .f32 → FVec F S1x1x8x128 .f32 → FVec F S1x1x8x128 .f32 → PG nD τ sig Λ F} :
    (iprop(anyAt (c : Thread nD τ) a ∗ anyAt (c : Thread nD τ) B.a12) : sProp 𝕄)
      ⊢ iprop((∀ d0 d1 d2, anyAt (c : Thread nD τ) a -∗ held (c : Thread nD τ) B.a12 (fun i => (i 0).val = sl) (Q12 f)
          -∗ wp frame (wpE defs 𝒱 (c : Thread nD τ) bd) E (K d0 d1 d2) Po)
        -∗ wp frame (wpE defs 𝒱 (c : Thread nD τ) bd) E (putScales B a o p sl ho hp hl f K) Po) := by
  iintro ⟨Ha, H⟩ K
  unfold putScales
  iapply (any_put (defs := defs) 𝒱 c bd E (Po := Po)) $$ Ha
  iintro %d0 Ha
  ihave H := (anyAt_held (F := F) c (Q12 f)) $$ H
  iapply (wp_skip (defs := defs) 𝒱 (c : Thread nD τ) bd E (Po := Po)) $$ H
  iintro %d1 H
  iapply (wp_st_eq (defs := defs) 𝒱 c bd E (Po := Po) (fun i => (i 0).val = sl ∧ (i 1).val = 0) (Q12 f)
    (fun y _ => (if_pos (slot8_t sl 0 hl (by decide) y)).trans (slot8_row sl 0 hl (by decide) (invOf f) y))
    (fun i hi h => (slot8_out hi.1 hi.2 h).elim)) $$ H
  iintro H
  iapply (wp_skip (defs := defs) 𝒱 (c : Thread nD τ) bd E (Po := Po)) $$ H
  iintro %d2 H
  iapply (wp_st_eq (defs := defs) 𝒱 c bd E (Po := Po) (fun i => (i 0).val = sl) (Q12 f)
    (fun y _ => (if_neg (by rw [slot8_t sl 1 hl (by decide) y]; decide)).trans (slot8_row sl 1 hl (by decide) (scaleOf f) y))
    (fun i hi h => ⟨⟨hi, by
      have h1 : (i 1).val < 2 := (i 1).isLt
      by_contra h'
      exact slot8_out hi (t := 1) (by omega) h⟩, rfl⟩)) $$ H
  iintro H
  iapply K $$ %d0 %d1 %d2 Ha H

/-- The factor and the scale of a block loaded. -/
theorem get_spec {sl b : ℕ} {hl : sl < 2} {hb : b < 8} {f : IVec S8x128 32} {K : FVec F S1x1x1x128 .f32 → FVec F S1x1x1x128 .f32 → PG nD τ sig Λ F} :
    (held (c : Thread nD τ) B.a12 (fun i => (i 0).val = sl) (Q12 f) : sProp 𝕄)
      ⊢ iprop((held (c : Thread nD τ) B.a12 (fun i => (i 0).val = sl) (Q12 f)
          -∗ wp frame (wpE defs 𝒱 (c : Thread nD τ) bd) E (K (rowOf (invOf f) ⟨b, hb⟩) (rowOf (scaleOf f) ⟨b, hb⟩)) Po)
        -∗ wp frame (wpE defs 𝒱 (c : Thread nD τ) bd) E (getScales B sl b hl hb K) Po) := by
  iintro H K
  unfold getScales
  have hP : ∀ (t : ℕ) (ht : t < 2) (y : S1x1x1x128.Idx), ((slot1 sl t b hl ht hb).toLoadRect.idx y 0).val = sl := by
    intro t ht y
    have h0 : (y 0).val < 1 := (y 0).isLt
    show sl + 1 * (y 0).val = sl
    omega
  have hi : ∀ (t : ℕ) (ht : t < 2) (y : S1x1x1x128.Idx), (ix2 ((slot1 sl t b hl ht hb).toLoadRect.idx y 2) ((slot1 sl t b hl ht hb).toLoadRect.idx y 3) : S8x128.Idx)
      = ix2 ⟨b, hb⟩ (y 3) := by
    intro t ht y
    have h0 : (y 2).val < 1 := (y 2).isLt
    funext x
    match x with
    | ⟨0, _⟩ =>
      refine Fin.ext ?_
      show b + 1 * (y 2).val = b
      omega
    | ⟨1, _⟩ =>
      refine Fin.ext ?_
      show 0 + 1 * (y 3).val = (y 3).val
      omega
  have ht : ∀ (t : ℕ) (ht : t < 2) (y : S1x1x1x128.Idx), ((slot1 sl t b hl ht hb).toLoadRect.idx y 1).val = t := by
    intro t ht y
    have h0 : (y 1).val < 1 := (y 1).isLt
    show t + 1 * (y 1).val = t
    omega
  have h0 : ∀ y, Q12 (F := F) f ((slot1 sl 0 b hl (by decide) hb).toLoadRect.idx y) = rowOf (invOf f) ⟨b, hb⟩ y := fun y =>
    (if_pos (ht 0 (by decide) y)).trans (congrArg (invOf f) (hi 0 (by decide) y))
  have h1 : ∀ y, Q12 (F := F) f ((slot1 sl 1 b hl (by decide) hb).toLoadRect.idx y) = rowOf (scaleOf f) ⟨b, hb⟩ y := fun y =>
    (if_neg (by rw [ht 1 (by decide) y]; decide)).trans (congrArg (scaleOf f) (hi 1 (by decide) y))
  iapply (wp_ld_eq (defs := defs) 𝒱 c bd E (Po := Po) (rowOf (invOf f) ⟨b, hb⟩) (hP 0 (by decide)) h0) $$ H
  iintro H
  iapply (wp_ld_eq (defs := defs) 𝒱 c bd E (Po := Po) (rowOf (scaleOf f) ⟨b, hb⟩) (hP 1 (by decide)) h1) $$ H
  iintro H
  iapply K $$ H

theorem xBlock_spec {u q sl b : ℕ} {hu : u < 2} {hc : 128 * q + 128 ≤ nx} {hl : sl < 2} {hb : b < 8} {X : FVec F S256x128 .bf16} {f : IVec S8x128 32}
    {K : FVec F S1x1x1x128 .f32 → FVec F S1x1x1x128 .f32 → FVec F S32x128 .fp8e4m3 → PG nD τ sig Λ F} :
    (iprop(held (c : Thread nD τ) B.a12 (fun i => (i 0).val = sl) (Q12 f) ∗ anyAt (c : Thread nD τ) B.a5) : sProp 𝕄)
      ⊢ iprop((∀ d, held (c : Thread nD τ) B.a12 (fun i => (i 0).val = sl) (Q12 f) -∗ anyAt (c : Thread nD τ) B.a5
          -∗ wp frame (wpE defs 𝒱 (c : Thread nD τ) bd) E (K (rowOf (invOf f) ⟨b, hb⟩) (rowOf (scaleOf f) ⟨b, hb⟩) d) Po)
        -∗ wp frame (wpE defs 𝒱 (c : Thread nD τ) bd) E (xBlock B u q sl b hu hc hl hb X K) Po) := by
  iintro ⟨H, H5⟩ K
  unfold xBlock
  iapply (get_spec (defs := defs) B 𝒱 c bd E (Po := Po)) $$ H
  iintro H
  iapply (any_put (defs := defs) 𝒱 c bd E (Po := Po)) $$ H5
  iintro %d H5
  iapply K $$ %d H H5

theorem yBlock_spec {u q sl b : ℕ} {hu : u < 2} {hc : 128 * q + 128 ≤ ny} {hl : sl < 2} {hb : b < 8}
    {K : FVec F S1x1x1x128 .f32 → FVec F S1x1x1x128 .f32 → FVec F S32x128 .fp8e5m2 → FVec F S32x128 .bf16 → PG nD τ sig Λ F} :
    (iprop(held (c : Thread nD τ) B.a12 (fun i => (i 0).val = sl) (Q12 (yField (yTile Q2 S u q))) ∗ anyAt (c : Thread nD τ) B.a7
        ∗ held (c : Thread nD τ) B.a10 (fun i => blk (i 0).val (i 1).val < 8 * (2 * q + u) + b) (Q10 Q2 S)) : sProp 𝕄)
      ⊢ iprop((∀ d d', held (c : Thread nD τ) B.a12 (fun i => (i 0).val = sl) (Q12 (yField (yTile Q2 S u q))) -∗ anyAt (c : Thread nD τ) B.a7
          -∗ held (c : Thread nD τ) B.a10 (fun i => blk (i 0).val (i 1).val < 8 * (2 * q + u) + (b + 1)) (Q10 Q2 S)
          -∗ wp frame (wpE defs 𝒱 (c : Thread nD τ) bd) E
            (K (rowOf (invOf (yField (yTile Q2 S u q))) ⟨b, hb⟩) (rowOf (scaleOf (yField (yTile Q2 S u q))) ⟨b, hb⟩) d d') Po)
        -∗ wp frame (wpE defs 𝒱 (c : Thread nD τ) bd) E (yBlock B u q sl b hu hc hl hb (yTile Q2 S u q) K) Po) := by
  iintro ⟨H, H7, H10⟩ K
  unfold yBlock
  iapply (get_spec (defs := defs) B 𝒱 c bd E (Po := Po)) $$ H
  iintro H
  iapply (any_put (defs := defs) 𝒱 c bd E (Po := Po)) $$ H7
  iintro %d H7
  iapply (wp_skip (defs := defs) 𝒱 (c : Thread nD τ) bd E (Po := Po)) $$ H10
  iintro %d' H10
  have hw : ∀ y : S32x128.Idx, Q10 Q2 S ((box (a := 512) (b := ny) (256 * u + 32 * b) (128 * q) 32 128 (by omega) hc).emb y)
      = shapeCast S32x128 (hatOf (by decide) (yCodes (32 * b) (slices_rows hb) (yTile Q2 S u q) (rowOf (invOf (yField (yTile Q2 S u q))) ⟨b, hb⟩))
        (rowOf (scaleOf (yField (yTile Q2 S u q))) ⟨b, hb⟩)) c32 y := by
    intro y
    rw [shapeCast_self]
    refine Q10_at hb y ?_ ?_
    · show 256 * u + 32 * b + 1 * (y 0).val = _
      omega
    · show 128 * q + 1 * (y 1).val = _
      omega
  have ho : ∀ i : (Mat 512 ny).Idx, blk (i 0).val (i 1).val < 8 * (2 * q + u) + (b + 1) →
      (∀ y : S32x128.Idx, (box (a := 512) (b := ny) (256 * u + 32 * b) (128 * q) 32 128 (by omega) hc).emb y ≠ i) → blk (i 0).val (i 1).val < 8 * (2 * q + u) + b := by
    intro i hi h
    by_contra hn
    have h0 : (i 0).val < 512 := (i 0).isLt
    unfold blk at hi hn
    exact box_out (by omega) (by omega) (by omega) (by omega) h
  iapply (wp_st_eq (defs := defs) 𝒱 c bd E (Po := Po) (fun i => blk (i 0).val (i 1).val < 8 * (2 * q + u) + (b + 1)) (Q10 Q2 S)
    (fun y _ => hw y) (fun i hi h => ⟨ho i hi h, rfl⟩)) $$ H10
  iintro H10
  iapply K $$ %d %d' H H7 H10

theorem stepX {p : PG nD τ sig Λ F} (hc : 128 * (n / 2) + 128 ≤ nx)
    {K0 : FVec F S256x128 .bf16 → PG nD τ sig Λ F}
    {K1 : FVec F S256x128 .bf16 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → PG nD τ sig Λ F}
    {K2 : FVec F S256x128 .bf16 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → PG nD τ sig Λ F}
    {K3 : FVec F S256x128 .bf16 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → FVec F S1x1x1x128 .f32 → FVec F S1x1x1x128 .f32 → FVec F S32x128 .fp8e4m3 → PG nD τ sig Λ F}
    {K4 : FVec F S256x128 .bf16 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → FVec F S1x1x1x128 .f32 → FVec F S1x1x1x128 .f32 → FVec F S32x128 .fp8e4m3 → FVec F S1x1x1x128 .f32 → FVec F S1x1x1x128 .f32 → FVec F S32x128 .fp8e4m3 → PG nD τ sig Λ F}
    {K5 : FVec F S256x128 .bf16 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → PG nD τ sig Λ F}
    {K6 : FVec F S256x128 .bf16 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → PG nD τ sig Λ F}
    {K7 : FVec F S256x128 .bf16 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → PG nD τ sig Λ F}
    {K8 : FVec F S256x128 .bf16 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → PG nD τ sig Λ F}
    {K9 : FVec F S256x128 .bf16 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → PG nD τ sig Λ F}
    {K10 : FVec F S256x128 .bf16 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → PG nD τ sig Λ F}
    {K11 : FVec F S256x128 .bf16 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S1x1x1x128 .f32 → FVec F S1x1x1x128 .f32 → FVec F S32x128 .fp8e4m3 → FVec F S128x256 .bf16 → PG nD τ sig Λ F}
    (h0 : p = ld B.a1 (box (256 * (n % 2)) (128 * (n / 2)) 256 128 (by omega) hc).toLoadRect (mat_pos (by decide) (by decide)) K0)
    (h1 : ∀ X, K0 X = foldRows B (n % 2) (mod2 n) (xMax (shapeCast S256x128 X c256)) (K1 X))
    (h2 : ∀ X d a0 a1 a2 a3 a4 a5 a6 a7, K1 X d a0 a1 a2 a3 a4 a5 a6 a7 = putScales B B.a6 (8 * (n % 2)) (128 * (n / 2)) (n % 2) (by omega) hc (mod2 n) (fields 0x3B124925#32 (max8 a0 a1 a2 a3 a4 a5 a6 a7)) (K2 X d a0 a1 a2 a3 a4 a5 a6 a7))
    (h3 : ∀ X d a0 a1 a2 a3 a4 a5 a6 a7 p0 p1 p2, K2 X d a0 a1 a2 a3 a4 a5 a6 a7 p0 p1 p2 = xBlock B (n % 2) (n / 2) (n % 2) 0 (mod2 n) hc (mod2 n) (by decide) (shapeCast S256x128 X c256) (K3 X d a0 a1 a2 a3 a4 a5 a6 a7 p0 p1 p2))
    (h4 : ∀ X d a0 a1 a2 a3 a4 a5 a6 a7 p0 p1 p2 i0 s0 d0, K3 X d a0 a1 a2 a3 a4 a5 a6 a7 p0 p1 p2 i0 s0 d0 = xBlock B (n % 2) (n / 2) (n % 2) 1 (mod2 n) hc (mod2 n) (by decide) (shapeCast S256x128 X c256) (K4 X d a0 a1 a2 a3 a4 a5 a6 a7 p0 p1 p2 i0 s0 d0))
    (h5 : ∀ X d a0 a1 a2 a3 a4 a5 a6 a7 p0 p1 p2 i0 s0 d0 i1 s1 d1, K4 X d a0 a1 a2 a3 a4 a5 a6 a7 p0 p1 p2 i0 s0 d0 i1 s1 d1 = xBlock B (n % 2) (n / 2) (n % 2) 2 (mod2 n) hc (mod2 n) (by decide) (shapeCast S256x128 X c256) (K5 X d a0 a1 a2 a3 a4 a5 a6 a7 p0 p1 p2 i0 s0 d0 i1 s1 d1))
    (h6 : ∀ X d a0 a1 a2 a3 a4 a5 a6 a7 p0 p1 p2 i0 s0 d0 i1 s1 d1 i2 s2 d2, K5 X d a0 a1 a2 a3 a4 a5 a6 a7 p0 p1 p2 i0 s0 d0 i1 s1 d1 i2 s2 d2 = xBlock B (n % 2) (n / 2) (n % 2) 3 (mod2 n) hc (mod2 n) (by decide) (shapeCast S256x128 X c256) (K6 X d a0 a1 a2 a3 a4 a5 a6 a7 p0 p1 p2 i0 s0 d0 i1 s1 d1 i2 s2 d2))
    (h7 : ∀ X d a0 a1 a2 a3 a4 a5 a6 a7 p0 p1 p2 i0 s0 d0 i1 s1 d1 i2 s2 d2 i3 s3 d3, K6 X d a0 a1 a2 a3 a4 a5 a6 a7 p0 p1 p2 i0 s0 d0 i1 s1 d1 i2 s2 d2 i3 s3 d3 = xBlock B (n % 2) (n / 2) (n % 2) 4 (mod2 n) hc (mod2 n) (by decide) (shapeCast S256x128 X c256) (K7 X d a0 a1 a2 a3 a4 a5 a6 a7 p0 p1 p2 i0 s0 d0 i1 s1 d1 i2 s2 d2 i3 s3 d3))
    (h8 : ∀ X d a0 a1 a2 a3 a4 a5 a6 a7 p0 p1 p2 i0 s0 d0 i1 s1 d1 i2 s2 d2 i3 s3 d3 i4 s4 d4, K7 X d a0 a1 a2 a3 a4 a5 a6 a7 p0 p1 p2 i0 s0 d0 i1 s1 d1 i2 s2 d2 i3 s3 d3 i4 s4 d4 = xBlock B (n % 2) (n / 2) (n % 2) 5 (mod2 n) hc (mod2 n) (by decide) (shapeCast S256x128 X c256) (K8 X d a0 a1 a2 a3 a4 a5 a6 a7 p0 p1 p2 i0 s0 d0 i1 s1 d1 i2 s2 d2 i3 s3 d3 i4 s4 d4))
    (h9 : ∀ X d a0 a1 a2 a3 a4 a5 a6 a7 p0 p1 p2 i0 s0 d0 i1 s1 d1 i2 s2 d2 i3 s3 d3 i4 s4 d4 i5 s5 d5, K8 X d a0 a1 a2 a3 a4 a5 a6 a7 p0 p1 p2 i0 s0 d0 i1 s1 d1 i2 s2 d2 i3 s3 d3 i4 s4 d4 i5 s5 d5 = xBlock B (n % 2) (n / 2) (n % 2) 6 (mod2 n) hc (mod2 n) (by decide) (shapeCast S256x128 X c256) (K9 X d a0 a1 a2 a3 a4 a5 a6 a7 p0 p1 p2 i0 s0 d0 i1 s1 d1 i2 s2 d2 i3 s3 d3 i4 s4 d4 i5 s5 d5))
    (h10 : ∀ X d a0 a1 a2 a3 a4 a5 a6 a7 p0 p1 p2 i0 s0 d0 i1 s1 d1 i2 s2 d2 i3 s3 d3 i4 s4 d4 i5 s5 d5 i6 s6 d6, K9 X d a0 a1 a2 a3 a4 a5 a6 a7 p0 p1 p2 i0 s0 d0 i1 s1 d1 i2 s2 d2 i3 s3 d3 i4 s4 d4 i5 s5 d5 i6 s6 d6 = xBlock B (n % 2) (n / 2) (n % 2) 7 (mod2 n) hc (mod2 n) (by decide) (shapeCast S256x128 X c256) (K10 X d a0 a1 a2 a3 a4 a5 a6 a7 p0 p1 p2 i0 s0 d0 i1 s1 d1 i2 s2 d2 i3 s3 d3 i4 s4 d4 i5 s5 d5 i6 s6 d6))
    (h11 : ∀ X d a0 a1 a2 a3 a4 a5 a6 a7 p0 p1 p2 i0 s0 d0 i1 s1 d1 i2 s2 d2 i3 s3 d3 i4 s4 d4 i5 s5 d5 i6 s6 d6 i7 s7 d7, K10 X d a0 a1 a2 a3 a4 a5 a6 a7 p0 p1 p2 i0 s0 d0 i1 s1 d1 i2 s2 d2 i3 s3 d3 i4 s4 d4 i5 s5 d5 i6 s6 d6 i7 s7 d7 = ld B.a9 (box (128 * (n / 2)) (256 * (n % 2)) 128 256 hc (by omega)).toLoadRect (mat_pos (by decide) (by decide)) fun t =>
      st B.a9 (box (128 * (n / 2)) (256 * (n % 2)) 128 256 hc (by omega)) (shapeCast S128x256 (stackT
          (hatOf (by decide) (xCodes (32 * 0) (slices_rows (by decide)) (shapeCast S256x128 X c256) i0) s0)
          (hatOf (by decide) (xCodes (32 * 1) (slices_rows (by decide)) (shapeCast S256x128 X c256) i1) s1)
          (hatOf (by decide) (xCodes (32 * 2) (slices_rows (by decide)) (shapeCast S256x128 X c256) i2) s2)
          (hatOf (by decide) (xCodes (32 * 3) (slices_rows (by decide)) (shapeCast S256x128 X c256) i3) s3)
          (hatOf (by decide) (xCodes (32 * 4) (slices_rows (by decide)) (shapeCast S256x128 X c256) i4) s4)
          (hatOf (by decide) (xCodes (32 * 5) (slices_rows (by decide)) (shapeCast S256x128 X c256) i5) s5)
          (hatOf (by decide) (xCodes (32 * 6) (slices_rows (by decide)) (shapeCast S256x128 X c256) i6) s6)
          (hatOf (by decide) (xCodes (32 * 7) (slices_rows (by decide)) (shapeCast S256x128 X c256) i7) s7)) c128)
        (View.stores_vmem (mat_pos (by decide) (by decide)) (B.w9.storeExact_slice rfl _ (box_packed _ _ (by
          show 2 ∣ 128 * (n / 2)
          omega) (by decide))) (fun _ => rfl)) (K11 X d a0 a1 a2 a3 a4 a5 a6 a7 p0 p1 p2 i0 s0 d0 i1 s1 d1 i2 s2 d2 i3 s3 d3 i4 s4 d4 i5 s5 d5 i6 s6 d6 i7 s7 d7 t))
    (h : ∀ X d a0 a1 a2 a3 a4 a5 a6 a7 p0 p1 p2 i0 s0 d0 i1 s1 d1 i2 s2 d2 i3 s3 d3 i4 s4 d4 i5 s5 d5 i6 s6 d6 i7 s7 d7 t,
      (iprop(St B c A Q1 Q2 Q3 S (n + 1) k D ∗ R) : sProp 𝕄) ⊢ wp frame (wpE defs 𝒱 (c : Thread nD τ) bd) E (K11 X d a0 a1 a2 a3 a4 a5 a6 a7 p0 p1 p2 i0 s0 d0 i1 s1 d1 i2 s2 d2 i3 s3 d3 i4 s4 d4 i5 s5 d5 i6 s6 d6 i7 s7 d7 t) Po) :
    (iprop(St B c A Q1 Q2 Q3 S n k D ∗ R) : sProp 𝕄) ⊢ wp frame (wpE defs 𝒱 (c : Thread nD τ) bd) E p Po := by
  rw [h0]
  unfold St
  iintro ⟨⟨H1, H2, H3, H4, H5, H6, H7, H8, H9, H10, H11, H12⟩, HR⟩
  iapply (wp_ld_eq (defs := defs) 𝒱 c bd E (Po := Po) (tile Q1 (n % 2) (n / 2)) (fun _ => trivial)
    (fun y => tile_box Q1 (n % 2) (n / 2) (by omega) hc y)) $$ H1
  iintro H1
  have hX : shapeCast S256x128 (tile Q1 (n % 2) (n / 2)) c256 = tile Q1 (n % 2) (n / 2) := shapeCast_self _ _
  rw [h1, hX]
  iapply (fold_spec (defs := defs) B 𝒱 c bd E (Po := Po)) $$ H11
  iintro %d H11
  rw [h2]
  iapply (put_spec (defs := defs) B 𝒱 c bd E (Po := Po) (f := xField (tile Q1 (n % 2) (n / 2)))) $$ [H6 H12]
  · isplitl [H6]
    · iexact H6
    · iexact H12
  iintro %p0 %p1 %p2 H6 H12
  rw [h3, hX]
  iapply (xBlock_spec (defs := defs) B 𝒱 c bd E (Po := Po)) $$ [H12 H5]
  · isplitl [H12]
    · iexact H12
    · iexact H5
  iintro %d0 H12 H5
  rw [h4, hX]
  iapply (xBlock_spec (defs := defs) B 𝒱 c bd E (Po := Po)) $$ [H12 H5]
  · isplitl [H12]
    · iexact H12
    · iexact H5
  iintro %d1 H12 H5
  rw [h5, hX]
  iapply (xBlock_spec (defs := defs) B 𝒱 c bd E (Po := Po)) $$ [H12 H5]
  · isplitl [H12]
    · iexact H12
    · iexact H5
  iintro %d2 H12 H5
  rw [h6, hX]
  iapply (xBlock_spec (defs := defs) B 𝒱 c bd E (Po := Po)) $$ [H12 H5]
  · isplitl [H12]
    · iexact H12
    · iexact H5
  iintro %d3 H12 H5
  rw [h7, hX]
  iapply (xBlock_spec (defs := defs) B 𝒱 c bd E (Po := Po)) $$ [H12 H5]
  · isplitl [H12]
    · iexact H12
    · iexact H5
  iintro %d4 H12 H5
  rw [h8, hX]
  iapply (xBlock_spec (defs := defs) B 𝒱 c bd E (Po := Po)) $$ [H12 H5]
  · isplitl [H12]
    · iexact H12
    · iexact H5
  iintro %d5 H12 H5
  rw [h9, hX]
  iapply (xBlock_spec (defs := defs) B 𝒱 c bd E (Po := Po)) $$ [H12 H5]
  · isplitl [H12]
    · iexact H12
    · iexact H5
  iintro %d6 H12 H5
  rw [h10, hX]
  iapply (xBlock_spec (defs := defs) B 𝒱 c bd E (Po := Po)) $$ [H12 H5]
  · isplitl [H12]
    · iexact H12
    · iexact H5
  iintro %d7 H12 H5
  rw [h11, hX]
  iapply (wp_skip (defs := defs) 𝒱 (c : Thread nD τ) bd E (Po := Po)) $$ H9
  iintro %t H9
  have hw : ∀ y : S128x256.Idx, Q9 Q1 ((box (a := nx) (b := 512) (128 * (n / 2)) (256 * (n % 2)) 128 256 hc (by omega)).emb y)
      = shapeCast S128x256 (xt (tile Q1 (n % 2) (n / 2))) c128 y := by
    intro y
    rw [shapeCast_self]
    refine Q9_at y ?_ ?_
    · show 128 * (n / 2) + 1 * (y 0).val = _
      omega
    · show 256 * (n % 2) + 1 * (y 1).val = _
      omega
  have ho : ∀ i : (Mat nx 512).Idx, 2 * ((i 0).val / 128) + (i 1).val / 256 < n + 1 →
      (∀ y : S128x256.Idx, (box (a := nx) (b := 512) (128 * (n / 2)) (256 * (n % 2)) 128 256 hc (by omega)).emb y ≠ i) →
      2 * ((i 0).val / 128) + (i 1).val / 256 < n := by
    intro i hi h
    by_contra hn
    have h0 : (i 1).val < 512 := (i 1).isLt
    exact box_out (by omega) (by omega) (by omega) (by omega) h
  iapply (wp_st_eq (defs := defs) 𝒱 c bd E (Po := Po) (fun i => 2 * ((i 0).val / 128) + (i 1).val / 256 < n + 1) (Q9 Q1)
    (fun y _ => hw y) (fun i hi h => ⟨ho i hi h, rfl⟩)) $$ H9
  iintro H9
  ihave H12 := (held_anyAt (F := F) c) $$ H12
  iapply (h (tile Q1 (n % 2) (n / 2)))
  unfold St
  isplitr [HR]
  · iframe
  · iexact HR

theorem stepY {p : PG nD τ sig Λ F} {w : ℕ} (hc : 128 * (k / 2) + 128 ≤ ny) (hp : 4 * (k / 2) / 128 * 128 + w ≤ ns) (hw : 0 < w)
    (T : FVec F (Mat 256 w) .f32 → FVec F S256x128 .f32)
    (hT : T (fun y => Q3 ((box (256 * (k % 2)) (4 * (k / 2) / 128 * 128) 256 w (by omega) hp).toLoadRect.idx y)) = S (k % 2) (k / 2))
    {K0 : FVec F (Mat 256 w) .f32 → PG nD τ sig Λ F}
    {K0' : FVec F (Mat 256 w) .f32 → FVec F S256x128 .fp8e5m2 → PG nD τ sig Λ F}
    {K1 : FVec F (Mat 256 w) .f32 → FVec F S256x128 .fp8e5m2 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → PG nD τ sig Λ F}
    {K2 : FVec F (Mat 256 w) .f32 → FVec F S256x128 .fp8e5m2 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → PG nD τ sig Λ F}
    {K3 : FVec F (Mat 256 w) .f32 → FVec F S256x128 .fp8e5m2 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → FVec F S1x1x1x128 .f32 → FVec F S1x1x1x128 .f32 → FVec F S32x128 .fp8e5m2 → FVec F S32x128 .bf16 → PG nD τ sig Λ F}
    {K4 : FVec F (Mat 256 w) .f32 → FVec F S256x128 .fp8e5m2 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → PG nD τ sig Λ F}
    {K5 : FVec F (Mat 256 w) .f32 → FVec F S256x128 .fp8e5m2 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → PG nD τ sig Λ F}
    {K6 : FVec F (Mat 256 w) .f32 → FVec F S256x128 .fp8e5m2 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → PG nD τ sig Λ F}
    {K7 : FVec F (Mat 256 w) .f32 → FVec F S256x128 .fp8e5m2 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → PG nD τ sig Λ F}
    {K8 : FVec F (Mat 256 w) .f32 → FVec F S256x128 .fp8e5m2 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → PG nD τ sig Λ F}
    {K9 : FVec F (Mat 256 w) .f32 → FVec F S256x128 .fp8e5m2 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → PG nD τ sig Λ F}
    {K10 : FVec F (Mat 256 w) .f32 → FVec F S256x128 .fp8e5m2 → FVec F S1x64x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S8x128 .f32 → FVec F S1x1x8x128 .f32 → FVec F S1x1x8x128 .f32 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → FVec F S1x1x1x128 .f32 → FVec F S1x1x1x128 .f32 → FVec F S32x128 .fp8e5m2 → FVec F S32x128 .bf16 → PG nD τ sig Λ F}
    (h0 : p = ld B.a3 (box (256 * (k % 2)) (4 * (k / 2) / 128 * 128) 256 w (by omega) hp).toLoadRect (mat_pos (by decide) hw) K0)
    (h0' : ∀ X0, K0 X0 = ld B.a2 (box (256 * (k % 2)) (128 * (k / 2)) 256 128 (by omega) hc).toLoadRect (mat_pos (by decide) (by decide)) (K0' X0))
    (h1 : ∀ X0 Y0, K0' X0 Y0 = foldRows B (k % 2) (mod2 k) (yMax (yVals Y0 (T X0))) (K1 X0 Y0))
    (h2 : ∀ X0 Y0 d a0 a1 a2 a3 a4 a5 a6 a7, K1 X0 Y0 d a0 a1 a2 a3 a4 a5 a6 a7 = putScales B B.a8 (8 * (k % 2)) (128 * (k / 2)) (k % 2) (by omega) hc (mod2 k) (fields 0x37924925#32 (max8 a0 a1 a2 a3 a4 a5 a6 a7)) (K2 X0 Y0 d a0 a1 a2 a3 a4 a5 a6 a7))
    (h3 : ∀ X0 Y0 d a0 a1 a2 a3 a4 a5 a6 a7 p0 p1 p2, K2 X0 Y0 d a0 a1 a2 a3 a4 a5 a6 a7 p0 p1 p2 = yBlock B (k % 2) (k / 2) (k % 2) 0 (mod2 k) hc (mod2 k) (by decide) (yVals Y0 (T X0)) (K3 X0 Y0 d a0 a1 a2 a3 a4 a5 a6 a7 p0 p1 p2))
    (h4 : ∀ X0 Y0 d a0 a1 a2 a3 a4 a5 a6 a7 p0 p1 p2 i0 s0 d0 e0, K3 X0 Y0 d a0 a1 a2 a3 a4 a5 a6 a7 p0 p1 p2 i0 s0 d0 e0 = yBlock B (k % 2) (k / 2) (k % 2) 1 (mod2 k) hc (mod2 k) (by decide) (yVals Y0 (T X0)) (K4 X0 Y0 d a0 a1 a2 a3 a4 a5 a6 a7 p0 p1 p2 i0 s0 d0 e0))
    (h5 : ∀ X0 Y0 d a0 a1 a2 a3 a4 a5 a6 a7 p0 p1 p2 i0 s0 d0 e0 i1 s1 d1 e1, K4 X0 Y0 d a0 a1 a2 a3 a4 a5 a6 a7 p0 p1 p2 i0 s0 d0 e0 i1 s1 d1 e1 = yBlock B (k % 2) (k / 2) (k % 2) 2 (mod2 k) hc (mod2 k) (by decide) (yVals Y0 (T X0)) (K5 X0 Y0 d a0 a1 a2 a3 a4 a5 a6 a7 p0 p1 p2 i0 s0 d0 e0 i1 s1 d1 e1))
    (h6 : ∀ X0 Y0 d a0 a1 a2 a3 a4 a5 a6 a7 p0 p1 p2 i0 s0 d0 e0 i1 s1 d1 e1 i2 s2 d2 e2, K5 X0 Y0 d a0 a1 a2 a3 a4 a5 a6 a7 p0 p1 p2 i0 s0 d0 e0 i1 s1 d1 e1 i2 s2 d2 e2 = yBlock B (k % 2) (k / 2) (k % 2) 3 (mod2 k) hc (mod2 k) (by decide) (yVals Y0 (T X0)) (K6 X0 Y0 d a0 a1 a2 a3 a4 a5 a6 a7 p0 p1 p2 i0 s0 d0 e0 i1 s1 d1 e1 i2 s2 d2 e2))
    (h7 : ∀ X0 Y0 d a0 a1 a2 a3 a4 a5 a6 a7 p0 p1 p2 i0 s0 d0 e0 i1 s1 d1 e1 i2 s2 d2 e2 i3 s3 d3 e3, K6 X0 Y0 d a0 a1 a2 a3 a4 a5 a6 a7 p0 p1 p2 i0 s0 d0 e0 i1 s1 d1 e1 i2 s2 d2 e2 i3 s3 d3 e3 = yBlock B (k % 2) (k / 2) (k % 2) 4 (mod2 k) hc (mod2 k) (by decide) (yVals Y0 (T X0)) (K7 X0 Y0 d a0 a1 a2 a3 a4 a5 a6 a7 p0 p1 p2 i0 s0 d0 e0 i1 s1 d1 e1 i2 s2 d2 e2 i3 s3 d3 e3))
    (h8 : ∀ X0 Y0 d a0 a1 a2 a3 a4 a5 a6 a7 p0 p1 p2 i0 s0 d0 e0 i1 s1 d1 e1 i2 s2 d2 e2 i3 s3 d3 e3 i4 s4 d4 e4, K7 X0 Y0 d a0 a1 a2 a3 a4 a5 a6 a7 p0 p1 p2 i0 s0 d0 e0 i1 s1 d1 e1 i2 s2 d2 e2 i3 s3 d3 e3 i4 s4 d4 e4 = yBlock B (k % 2) (k / 2) (k % 2) 5 (mod2 k) hc (mod2 k) (by decide) (yVals Y0 (T X0)) (K8 X0 Y0 d a0 a1 a2 a3 a4 a5 a6 a7 p0 p1 p2 i0 s0 d0 e0 i1 s1 d1 e1 i2 s2 d2 e2 i3 s3 d3 e3 i4 s4 d4 e4))
    (h9 : ∀ X0 Y0 d a0 a1 a2 a3 a4 a5 a6 a7 p0 p1 p2 i0 s0 d0 e0 i1 s1 d1 e1 i2 s2 d2 e2 i3 s3 d3 e3 i4 s4 d4 e4 i5 s5 d5 e5, K8 X0 Y0 d a0 a1 a2 a3 a4 a5 a6 a7 p0 p1 p2 i0 s0 d0 e0 i1 s1 d1 e1 i2 s2 d2 e2 i3 s3 d3 e3 i4 s4 d4 e4 i5 s5 d5 e5 = yBlock B (k % 2) (k / 2) (k % 2) 6 (mod2 k) hc (mod2 k) (by decide) (yVals Y0 (T X0)) (K9 X0 Y0 d a0 a1 a2 a3 a4 a5 a6 a7 p0 p1 p2 i0 s0 d0 e0 i1 s1 d1 e1 i2 s2 d2 e2 i3 s3 d3 e3 i4 s4 d4 e4 i5 s5 d5 e5))
    (h10 : ∀ X0 Y0 d a0 a1 a2 a3 a4 a5 a6 a7 p0 p1 p2 i0 s0 d0 e0 i1 s1 d1 e1 i2 s2 d2 e2 i3 s3 d3 e3 i4 s4 d4 e4 i5 s5 d5 e5 i6 s6 d6 e6, K9 X0 Y0 d a0 a1 a2 a3 a4 a5 a6 a7 p0 p1 p2 i0 s0 d0 e0 i1 s1 d1 e1 i2 s2 d2 e2 i3 s3 d3 e3 i4 s4 d4 e4 i5 s5 d5 e5 i6 s6 d6 e6 = yBlock B (k % 2) (k / 2) (k % 2) 7 (mod2 k) hc (mod2 k) (by decide) (yVals Y0 (T X0)) (K10 X0 Y0 d a0 a1 a2 a3 a4 a5 a6 a7 p0 p1 p2 i0 s0 d0 e0 i1 s1 d1 e1 i2 s2 d2 e2 i3 s3 d3 e3 i4 s4 d4 e4 i5 s5 d5 e5 i6 s6 d6 e6))
    (h : ∀ X0 Y0 d a0 a1 a2 a3 a4 a5 a6 a7 p0 p1 p2 i0 s0 d0 e0 i1 s1 d1 e1 i2 s2 d2 e2 i3 s3 d3 e3 i4 s4 d4 e4 i5 s5 d5 e5 i6 s6 d6 e6 i7 s7 d7 e7,
      (iprop(St B c A Q1 Q2 Q3 S n (k + 1) D ∗ R) : sProp 𝕄) ⊢ wp frame (wpE defs 𝒱 (c : Thread nD τ) bd) E (K10 X0 Y0 d a0 a1 a2 a3 a4 a5 a6 a7 p0 p1 p2 i0 s0 d0 e0 i1 s1 d1 e1 i2 s2 d2 e2 i3 s3 d3 e3 i4 s4 d4 e4 i5 s5 d5 e5 i6 s6 d6 e6 i7 s7 d7 e7) Po) :
    (iprop(St B c A Q1 Q2 Q3 S n k D ∗ R) : sProp 𝕄) ⊢ wp frame (wpE defs 𝒱 (c : Thread nD τ) bd) E p Po := by
  rw [h0]
  unfold St
  iintro ⟨⟨H1, H2, H3, H4, H5, H6, H7, H8, H9, H10, H11, H12⟩, HR⟩
  obtain ⟨X0, hX0⟩ : ∃ X0 : FVec F (Mat 256 w) .f32,
      X0 = (fun y => Q3 ((box (256 * (k % 2)) (4 * (k / 2) / 128 * 128) 256 w (by omega) hp).toLoadRect.idx y)) := ⟨_, rfl⟩
  iapply (wp_ld_eq (defs := defs) 𝒱 c bd E (Po := Po) X0 (fun _ => trivial) (fun y => by rw [hX0])) $$ H3
  iintro H3
  rw [h0']
  iapply (wp_ld_eq (defs := defs) 𝒱 c bd E (Po := Po) (tile Q2 (k % 2) (k / 2)) (fun _ => trivial)
    (fun y => tile_box Q2 (k % 2) (k / 2) (by omega) hc y)) $$ H2
  iintro H2
  have hY : yVals (tile Q2 (k % 2) (k / 2)) (T X0) = yTile Q2 S (k % 2) (k / 2) := by rw [hX0, hT]; rfl
  rw [h1, hY]
  iapply (fold_spec (defs := defs) B 𝒱 c bd E (Po := Po)) $$ H11
  iintro %d H11
  rw [h2]
  iapply (put_spec (defs := defs) B 𝒱 c bd E (Po := Po) (f := yField (yTile Q2 S (k % 2) (k / 2)))) $$ [H8 H12]
  · isplitl [H8]
    · iexact H8
    · iexact H12
  iintro %p0 %p1 %p2 H8 H12
  have hk0 : 8 * k = 8 * (2 * (k / 2) + k % 2) + 0 := by omega
  have hk1 : 8 * (2 * (k / 2) + k % 2) + (7 + 1) = 8 * (k + 1) := by omega
  rw [hk0]
  rw [h3, hY]
  iapply (yBlock_spec (defs := defs) B 𝒱 c bd E (Po := Po)) $$ [H12 H7 H10]
  · isplitl [H12]
    · iexact H12
    · isplitl [H7]
      · iexact H7
      · iexact H10
  iintro %d0 %e0 H12 H7 H10
  rw [h4, hY]
  iapply (yBlock_spec (defs := defs) B 𝒱 c bd E (Po := Po)) $$ [H12 H7 H10]
  · isplitl [H12]
    · iexact H12
    · isplitl [H7]
      · iexact H7
      · iexact H10
  iintro %d1 %e1 H12 H7 H10
  rw [h5, hY]
  iapply (yBlock_spec (defs := defs) B 𝒱 c bd E (Po := Po)) $$ [H12 H7 H10]
  · isplitl [H12]
    · iexact H12
    · isplitl [H7]
      · iexact H7
      · iexact H10
  iintro %d2 %e2 H12 H7 H10
  rw [h6, hY]
  iapply (yBlock_spec (defs := defs) B 𝒱 c bd E (Po := Po)) $$ [H12 H7 H10]
  · isplitl [H12]
    · iexact H12
    · isplitl [H7]
      · iexact H7
      · iexact H10
  iintro %d3 %e3 H12 H7 H10
  rw [h7, hY]
  iapply (yBlock_spec (defs := defs) B 𝒱 c bd E (Po := Po)) $$ [H12 H7 H10]
  · isplitl [H12]
    · iexact H12
    · isplitl [H7]
      · iexact H7
      · iexact H10
  iintro %d4 %e4 H12 H7 H10
  rw [h8, hY]
  iapply (yBlock_spec (defs := defs) B 𝒱 c bd E (Po := Po)) $$ [H12 H7 H10]
  · isplitl [H12]
    · iexact H12
    · isplitl [H7]
      · iexact H7
      · iexact H10
  iintro %d5 %e5 H12 H7 H10
  rw [h9, hY]
  iapply (yBlock_spec (defs := defs) B 𝒱 c bd E (Po := Po)) $$ [H12 H7 H10]
  · isplitl [H12]
    · iexact H12
    · isplitl [H7]
      · iexact H7
      · iexact H10
  iintro %d6 %e6 H12 H7 H10
  rw [h10, hY]
  iapply (yBlock_spec (defs := defs) B 𝒱 c bd E (Po := Po)) $$ [H12 H7 H10]
  · isplitl [H12]
    · iexact H12
    · isplitl [H7]
      · iexact H7
      · iexact H10
  iintro %d7 %e7 H12 H7 H10
  ihave H12 := (held_anyAt (F := F) c) $$ H12
  rw [hk1]
  iapply (h X0 (tile Q2 (k % 2) (k / 2)))
  unfold St
  isplitr [HR]
  · iframe
  · iexact HR

theorem stepC {p : PG nD τ sig Λ F} (o w : ℕ) (hp : o + w ≤ ny) (hx : 0 < nx) (hw : 0 < w) (d : DotDims (Mat nx 512) (Mat 512 w) (Mat nx w))
    (h : (Mat nx w).ShapeCasts (Mat nx w))
    {K : FVec F (Mat nx w) .f32 → FVec F (Mat nx 512) .bf16 → FVec F (Mat 512 w) .bf16 → FVec F (Mat nx w) .f32 → PG nD τ sig Λ F}
    (h0 : p = addChunk B o w hp hx hw d h K) (hn : 2 * ((nx - 1) / 128) + 1 < n) (hk : 2 * ((o + w - 1) / 128) + 1 < k)
    (hG : A → ∀ y : (Mat nx w).Idx, addf (shapeCast (Mat nx w) (fun y => D ((box (a := nx) (b := ny) 0 o nx w (by omega) hp).toLoadRect.idx y)) h)
      (matmul d none (fun y => Q9 Q1 ((box (a := nx) (b := 512) 0 0 nx 512 (by omega) (by omega)).toLoadRect.idx y))
        (fun y => Q10 Q2 S ((box (a := 512) (b := ny) 0 o 512 w (by omega) hp).toLoadRect.idx y)) (constant (Mat nx w) .f32 0x00000000#32)) y
      = G ((box (a := nx) (b := ny) 0 o nx w (by omega) hp).emb y))
    (hK : ∀ D0 T H D1, (iprop(St B c A Q1 Q2 Q3 S n k (upTo D G (o + w)) ∗ R) : sProp 𝕄) ⊢ wp frame (wpE defs 𝒱 (c : Thread nD τ) bd) E (K D0 T H D1) Po) :
    (iprop(St B c A Q1 Q2 Q3 S n k (upTo D G o) ∗ R) : sProp 𝕄) ⊢ wp frame (wpE defs 𝒱 (c : Thread nD τ) bd) E p Po := by
  rw [h0]
  unfold St addChunk
  iintro ⟨⟨H1, H2, H3, H4, H5, H6, H7, H8, H9, H10, H11, H12⟩, HR⟩
  by_cases hA : A
  · iapply (wp_ld_eq (defs := defs) 𝒱 c bd E (Po := Po) (fun y => D ((box (a := nx) (b := ny) 0 o nx w (by omega) hp).toLoadRect.idx y)) (fun _ => hA)
      (fun y => if_neg (by
        show ¬ o + 1 * (y 1).val < o
        omega))) $$ H4
    iintro H4
    iapply (wp_ld (defs := defs) 𝒱 (c : Thread nD τ) bd E (Po := Po) (fun y => by
      have e0 : (y 0).val < nx := (y 0).isLt
      have e1 : (y 1).val < 512 := (y 1).isLt
      show 2 * ((0 + 1 * (y 0).val) / 128) + (0 + 1 * (y 1).val) / 256 < n
      omega)) $$ H9
    iintro H9
    iapply (wp_ld (defs := defs) 𝒱 (c : Thread nD τ) bd E (Po := Po) (fun y => by
      have e0 : (y 0).val < 512 := (y 0).isLt
      have e1 : (y 1).val < w := (y 1).isLt
      show 8 * (2 * ((o + 1 * (y 1).val) / 128) + (0 + 1 * (y 0).val) / 256) + (0 + 1 * (y 0).val) % 256 / 32 < 8 * k
      omega)) $$ H10
    iintro H10
    iapply (wp_skip (defs := defs) 𝒱 (c : Thread nD τ) bd E (Po := Po)) $$ H4
    iintro %D1 H4
    iapply (wp_st_eq (defs := defs) 𝒱 c bd E (Po := Po) (fun _ => A) (upTo D G (o + w))
      (fun y _ => (if_pos (by
        have e1 : (y 1).val < w := (y 1).isLt
        show o + 1 * (y 1).val < o + w
        omega)).trans (hG hA y).symm) (fun i hi h => ⟨hi, by
          have e0 : (i 0).val < nx := (i 0).isLt
          unfold upTo
          by_cases e : (i 1).val < o
          · rw [if_pos e, if_pos (by omega)]
          · rw [if_neg e, if_neg (fun e' => box_out (by omega) (by omega) (by omega) e' h)]⟩)) $$ H4
    iintro H4
    iapply (hK)
    unfold St
    isplitr [HR]
    · iframe
    · iexact HR
  · iapply (wp_skip (defs := defs) 𝒱 (c : Thread nD τ) bd E (Po := Po)) $$ H4
    iintro %D0 H4
    iapply (wp_skip (defs := defs) 𝒱 (c : Thread nD τ) bd E (Po := Po)) $$ H9
    iintro %T0 H9
    iapply (wp_skip (defs := defs) 𝒱 (c : Thread nD τ) bd E (Po := Po)) $$ H10
    iintro %T1 H10
    iapply (wp_skip (defs := defs) 𝒱 (c : Thread nD τ) bd E (Po := Po)) $$ H4
    iintro %D1 H4
    iapply (wp_st_eq (defs := defs) 𝒱 c bd E (Po := Po) (fun _ => A) (upTo D G (o + w))
      (fun y h => (hA h).elim) (fun i hi h => (hA hi).elim)) $$ H4
    iintro H4
    iapply (hK)
    unfold St
    isplitr [HR]
    · iframe
    · iexact HR

/-- The first grid step zeroes the weight gradient. -/
theorem stepZ {p q : PG nD τ sig Λ F} {cnd : Prop} [Decidable cnd] {D' : (Mat nx ny).Idx → F .f32}
    (hx : 0 < nx) (hy : 0 < ny)
    (h0 : ¬ cnd → p = q)
    (h1 : cnd → p = ld B.a4 (box 0 0 nx ny (by omega) (by omega)).toLoadRect (mat_pos hx hy) fun _ =>
      st B.a4 (box 0 0 nx ny (by omega) (by omega)) (broadcast (Mat nx ny) (Scalar.ofBits .f32 0x00000000#32)) (View.stores_vmem_bits_univ (mat_pos hx hy) rfl) q)
    (hD : D = if cnd then broadcast (Mat nx ny) (Scalar.ofBits .f32 0x00000000#32) else D')
    (hK : (iprop(St B c A Q1 Q2 Q3 S n k D ∗ R) : sProp 𝕄) ⊢ wp frame (wpE defs 𝒱 (c : Thread nD τ) bd) E q Po) :
    (iprop(St B c A Q1 Q2 Q3 S n k D' ∗ R) : sProp 𝕄) ⊢ wp frame (wpE defs 𝒱 (c : Thread nD τ) bd) E p Po := by
  by_cases hc : cnd
  · rw [h1 hc]
    rw [if_pos hc] at hD
    unfold St
    iintro ⟨⟨H1, H2, H3, H4, H5, H6, H7, H8, H9, H10, H11, H12⟩, HR⟩
    iapply (wp_skip (defs := defs) 𝒱 (c : Thread nD τ) bd E (Po := Po)) $$ H4
    iintro %D1 H4
    iapply (wp_st_eq (defs := defs) 𝒱 c bd E (Po := Po) (fun _ => A) D
      (fun y _ => by rw [hD]; rfl) (fun i hi h => by
        have e0 : (i 0).val < nx := (i 0).isLt
        have e1 : (i 1).val < ny := (i 1).isLt
        exact (box_out (by omega) (by omega) (by omega) (by omega) h).elim)) $$ H4
    iintro H4
    iapply (hK)
    unfold St
    isplitr [HR]
    · iframe
    · iexact HR
  · rw [h0 hc]
    rw [if_neg hc] at hD
    rw [← hD]
    exact hK

end

end Mx

end
-- ==== Proof.BodyBits.lean ====
/-
  The body of one grid step of the printed program, tile by tile.
-/
module

public import proofs.«01_k».proof.Proof.Steps
public import proofs.«01_k».proof.Kernel
public import proofs.«01_k».proof.Proof.Gen.Kernel

@[expose] public section

noncomputable section

namespace Cert.Kernel.Gen

open Idealize.ShloMosaic Idealize.ShloMosaic.TcCoe Idealize.ShloMosaic.ValueIdx
open Idealize.SL
open Idealize.SL.RA Idealize.SL.Sem Idealize.SL.ProofMode
open Idealize.SL.BI (sProp bigSep)
open scoped Idealize.SL.BI
open Idealize.SL.BI.BIBase Idealize.SL.BI.Laws
open Mx (Bufs Mat St)

variable {F : FTy → Type} [FloatOps F]
local notation "𝕄" => MT nD τ sig Unit (Elt F) ℕ (UR sig nD τ) ℕ

attribute [local irreducible] maximumf minimumf mulf addf select cmpf cmpi addi subi shli bitcastToFloat extf truncf broadcast broadcastTo shapeCast extractStridedSlice concatenate transpose multiReduction absf dynamicGather constant iota divsi remsi extui andi

/-- The condition under which the weight gradient is zeroed. -/
abbrev atZero (i : grid0.Coords) : Prop := (Scalar.cmpi .ne (Scalar.extui (Scalar.cmpi .eq (BitVec.ofNat 32 (i 0).val) 0#32) : BitVec 32) 0#32 = 1#1)

set_option maxRecDepth 16384 in
set_option maxHeartbeats 100000000 in
theorem body_run (c : Dev nD) (i : grid0.Coords) (B : Bufs sig 1536 5248 164) (w1 w2 w3 w4 w6 w8 w11 w12) {A : Prop}
    (Q1 : (Mat 512 1536).Idx → F .bf16) (Q2 : (Mat 512 5248).Idx → F .fp8e5m2)
    (Q3 : (Mat 512 164).Idx → F .f32) (S : ℕ → ℕ → FVec F Mx.S256x128 .f32) (D0 D G : (Mat 1536 5248).Idx → F .f32)
    (E : Set ℕ) (Po : PUnit → sProp 𝕄) (R : sProp 𝕄)
    (hD : D = if atZero i then broadcast (Mat 1536 5248) (Scalar.ofBits .f32 0x00000000#32) else D0)
    (hS : ∀ (u c : ℕ) (hu : 256 * u + 256 ≤ 512) (hp : 4 * c / 128 * 128 + 128 ≤ 164),
      Mx.scFull (4 * c % 128) (fun y => Q3 ((Mx.box (256 * u) (4 * c / 128 * 128) 256 128 hu hp).toLoadRect.idx y)) = S u c)
    (hS' : ∀ (u c : ℕ) (hu : 256 * u + 256 ≤ 512) (hp : 4 * c / 128 * 128 + 36 ≤ 164), 4 * c / 128 * 128 + 128 > 164 →
      Mx.scPad (4 * c % 128) 36 (by decide) (by decide) (fun y => Q3 ((Mx.box (256 * u) (4 * c / 128 * 128) 256 36 hu hp).toLoadRect.idx y)) = S u c)
    (hG512 : A → ∀ (o : ℕ) (hp : o + 512 ≤ 5248) (y : (Mat 1536 512).Idx),
      addf (shapeCast (s := Mat 1536 512) (Mat 1536 512) (fun y => D ((Mx.box (a := 1536) (b := 5248) 0 o 1536 512 (by omega) hp).toLoadRect.idx y)) (by decide))
        (matmul dot_S1536x512_S512x512_S1536x512_1_0_0_1_n_n none (fun y => Mx.Q9 Q1 ((Mx.box (a := 1536) (b := 512) 0 0 1536 512 (by omega) (by omega)).toLoadRect.idx y))
          (fun y => Mx.Q10 Q2 S ((Mx.box (a := 512) (b := 5248) 0 o 512 512 (by omega) hp).toLoadRect.idx y)) (constant (Mat 1536 512) .f32 0x00000000#32)) y
        = G ((Mx.box (a := 1536) (b := 5248) 0 o 1536 512 (by omega) hp).emb y))
    (hG128 : A → ∀ (o : ℕ) (hp : o + 128 ≤ 5248) (y : (Mat 1536 128).Idx),
      addf (shapeCast (s := Mat 1536 128) (Mat 1536 128) (fun y => D ((Mx.box (a := 1536) (b := 5248) 0 o 1536 128 (by omega) hp).toLoadRect.idx y)) (by decide))
        (matmul dot_S1536x512_S512x128_S1536x128_1_0_0_1_n_n none (fun y => Mx.Q9 Q1 ((Mx.box (a := 1536) (b := 512) 0 0 1536 512 (by omega) (by omega)).toLoadRect.idx y))
          (fun y => Mx.Q10 Q2 S ((Mx.box (a := 512) (b := 5248) 0 o 512 128 (by omega) hp).toLoadRect.idx y)) (constant (Mat 1536 128) .f32 0x00000000#32)) y
        = G ((Mx.box (a := 1536) (b := 5248) 0 o 1536 128 (by omega) hp).emb y))
    (hPo : (iprop(St B c A Q1 Q2 Q3 S 24 82 (Mx.upTo D G 5248) ∗ R) : sProp 𝕄) ⊢ Po ⟨⟩) :
   (iprop(St B c A Q1 Q2 Q3 S 0 0 D0 ∗ R) : sProp 𝕄) ⊢ wp frame (wpE (defs₀ (F := F)) Variants.none (c : Thread nD τ) none) E
     (cc0_mx_dw i B.a1 w1 B.a2 w2 B.a3 w3 B.a4 w4 B.a5 B.w5 B.a6 w6 B.a7 B.w7 B.a8 w8 B.a9 B.w9 B.a10 B.w10 B.a11 w11 B.a12 w12) Po := by
  unfold cc0_mx_dw k0_part1053 k0_part1036 k0_part1
  dsimp only
  refine Mx.stepZ (q := ?q) (cnd := atZero i) B Variants.none c none E (by decide) (by decide) (fun hc => ?neg) (fun hc => ?pos) hD ?rest
  case neg =>
    rw [dif_neg hc]
    first | done | exact rfl
  case pos =>
    rw [dif_pos hc]
    first | done | exact rfl
  rw [show D = Mx.upTo D G 0 from Mx.upTo_zero.symm]
  apply Mx.stepX (n := 0) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 1) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 2) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 3) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 4) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 5) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 6) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 7) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 8) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 9) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 10) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 11) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 12) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 13) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 14) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 15) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 16) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 17) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 18) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 19) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 20) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 21) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 22) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 23) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 0) B Variants.none c none E (by decide) (by decide) (by decide) (Mx.scFull 0) (hS 0 0 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 1) B Variants.none c none E (by decide) (by decide) (by decide) (Mx.scFull 0) (hS 1 0 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 2) B Variants.none c none E (by decide) (by decide) (by decide) (Mx.scFull 4) (hS 0 1 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 3) B Variants.none c none E (by decide) (by decide) (by decide) (Mx.scFull 4) (hS 1 1 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 4) B Variants.none c none E (by decide) (by decide) (by decide) (Mx.scFull 8) (hS 0 2 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 5) B Variants.none c none E (by decide) (by decide) (by decide) (Mx.scFull 8) (hS 1 2 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 6) B Variants.none c none E (by decide) (by decide) (by decide) (Mx.scFull 12) (hS 0 3 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 7) B Variants.none c none E (by decide) (by decide) (by decide) (Mx.scFull 12) (hS 1 3 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 0 512 (by decide) (by decide) (by decide) dot_S1536x512_S512x512_S1536x512_1_0_0_1_n_n (by decide) rfl (by decide) (by decide) (fun hA => hG512 hA 0 (by decide)) ?_
  intros
  apply Mx.stepY (k := 8) B Variants.none c none E (by decide) (by decide) (by decide) (Mx.scFull 16) (hS 0 4 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 9) B Variants.none c none E (by decide) (by decide) (by decide) (Mx.scFull 16) (hS 1 4 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 10) B Variants.none c none E (by decide) (by decide) (by decide) (Mx.scFull 20) (hS 0 5 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 11) B Variants.none c none E (by decide) (by decide) (by decide) (Mx.scFull 20) (hS 1 5 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 12) B Variants.none c none E (by decide) (by decide) (by decide) (Mx.scFull 24) (hS 0 6 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 13) B Variants.none c none E (by decide) (by decide) (by decide) (Mx.scFull 24) (hS 1 6 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 14) B Variants.none c none E (by decide) (by decide) (by decide) (Mx.scFull 28) (hS 0 7 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 15) B Variants.none c none E (by decide) (by decide) (by decide) (Mx.scFull 28) (hS 1 7 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 512 512 (by decide) (by decide) (by decide) dot_S1536x512_S512x512_S1536x512_1_0_0_1_n_n (by decide) rfl (by decide) (by decide) (fun hA => hG512 hA 512 (by decide)) ?_
  intros
  apply Mx.stepY (k := 16) B Variants.none c none E (by decide) (by decide) (by decide) (Mx.scFull 32) (hS 0 8 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 17) B Variants.none c none E (by decide) (by decide) (by decide) (Mx.scFull 32) (hS 1 8 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 18) B Variants.none c none E (by decide) (by decide) (by decide) (Mx.scFull 36) (hS 0 9 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 19) B Variants.none c none E (by decide) (by decide) (by decide) (Mx.scFull 36) (hS 1 9 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 20) B Variants.none c none E (by decide) (by decide) (by decide) (Mx.scFull 40) (hS 0 10 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 21) B Variants.none c none E (by decide) (by decide) (by decide) (Mx.scFull 40) (hS 1 10 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 22) B Variants.none c none E (by decide) (by decide) (by decide) (Mx.scFull 44) (hS 0 11 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 23) B Variants.none c none E (by decide) (by decide) (by decide) (Mx.scFull 44) (hS 1 11 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 1024 512 (by decide) (by decide) (by decide) dot_S1536x512_S512x512_S1536x512_1_0_0_1_n_n (by decide) rfl (by decide) (by decide) (fun hA => hG512 hA 1024 (by decide)) ?_
  intros
  apply Mx.stepY (k := 24) B Variants.none c none E (by decide) (by decide) (by decide) (Mx.scFull 48) (hS 0 12 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 25) B Variants.none c none E (by decide) (by decide) (by decide) (Mx.scFull 48) (hS 1 12 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 26) B Variants.none c none E (by decide) (by decide) (by decide) (Mx.scFull 52) (hS 0 13 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 27) B Variants.none c none E (by decide) (by decide) (by decide) (Mx.scFull 52) (hS 1 13 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 28) B Variants.none c none E (by decide) (by decide) (by decide) (Mx.scFull 56) (hS 0 14 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 29) B Variants.none c none E (by decide) (by decide) (by decide) (Mx.scFull 56) (hS 1 14 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 30) B Variants.none c none E (by decide) (by decide) (by decide) (Mx.scFull 60) (hS 0 15 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 31) B Variants.none c none E (by decide) (by decide) (by decide) (Mx.scFull 60) (hS 1 15 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 1536 512 (by decide) (by decide) (by decide) dot_S1536x512_S512x512_S1536x512_1_0_0_1_n_n (by decide) rfl (by decide) (by decide) (fun hA => hG512 hA 1536 (by decide)) ?_
  intros
  apply Mx.stepY (k := 32) B Variants.none c none E (by decide) (by decide) (by decide) (Mx.scFull 64) (hS 0 16 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 33) B Variants.none c none E (by decide) (by decide) (by decide) (Mx.scFull 64) (hS 1 16 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 34) B Variants.none c none E (by decide) (by decide) (by decide) (Mx.scFull 68) (hS 0 17 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 35) B Variants.none c none E (by decide) (by decide) (by decide) (Mx.scFull 68) (hS 1 17 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 36) B Variants.none c none E (by decide) (by decide) (by decide) (Mx.scFull 72) (hS 0 18 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 37) B Variants.none c none E (by decide) (by decide) (by decide) (Mx.scFull 72) (hS 1 18 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 38) B Variants.none c none E (by decide) (by decide) (by decide) (Mx.scFull 76) (hS 0 19 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 39) B Variants.none c none E (by decide) (by decide) (by decide) (Mx.scFull 76) (hS 1 19 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 2048 512 (by decide) (by decide) (by decide) dot_S1536x512_S512x512_S1536x512_1_0_0_1_n_n (by decide) rfl (by decide) (by decide) (fun hA => hG512 hA 2048 (by decide)) ?_
  intros
  apply Mx.stepY (k := 40) B Variants.none c none E (by decide) (by decide) (by decide) (Mx.scFull 80) (hS 0 20 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 41) B Variants.none c none E (by decide) (by decide) (by decide) (Mx.scFull 80) (hS 1 20 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 42) B Variants.none c none E (by decide) (by decide) (by decide) (Mx.scFull 84) (hS 0 21 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 43) B Variants.none c none E (by decide) (by decide) (by decide) (Mx.scFull 84) (hS 1 21 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 44) B Variants.none c none E (by decide) (by decide) (by decide) (Mx.scFull 88) (hS 0 22 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 45) B Variants.none c none E (by decide) (by decide) (by decide) (Mx.scFull 88) (hS 1 22 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 46) B Variants.none c none E (by decide) (by decide) (by decide) (Mx.scFull 92) (hS 0 23 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 47) B Variants.none c none E (by decide) (by decide) (by decide) (Mx.scFull 92) (hS 1 23 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 2560 512 (by decide) (by decide) (by decide) dot_S1536x512_S512x512_S1536x512_1_0_0_1_n_n (by decide) rfl (by decide) (by decide) (fun hA => hG512 hA 2560 (by decide)) ?_
  intros
  apply Mx.stepY (k := 48) B Variants.none c none E (by decide) (by decide) (by decide) (Mx.scFull 96) (hS 0 24 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 49) B Variants.none c none E (by decide) (by decide) (by decide) (Mx.scFull 96) (hS 1 24 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 50) B Variants.none c none E (by decide) (by decide) (by decide) (Mx.scFull 100) (hS 0 25 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 51) B Variants.none c none E (by decide) (by decide) (by decide) (Mx.scFull 100) (hS 1 25 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 52) B Variants.none c none E (by decide) (by decide) (by decide) (Mx.scFull 104) (hS 0 26 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 53) B Variants.none c none E (by decide) (by decide) (by decide) (Mx.scFull 104) (hS 1 26 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 54) B Variants.none c none E (by decide) (by decide) (by decide) (Mx.scFull 108) (hS 0 27 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 55) B Variants.none c none E (by decide) (by decide) (by decide) (Mx.scFull 108) (hS 1 27 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 3072 512 (by decide) (by decide) (by decide) dot_S1536x512_S512x512_S1536x512_1_0_0_1_n_n (by decide) rfl (by decide) (by decide) (fun hA => hG512 hA 3072 (by decide)) ?_
  intros
  apply Mx.stepY (k := 56) B Variants.none c none E (by decide) (by decide) (by decide) (Mx.scFull 112) (hS 0 28 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 57) B Variants.none c none E (by decide) (by decide) (by decide) (Mx.scFull 112) (hS 1 28 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 58) B Variants.none c none E (by decide) (by decide) (by decide) (Mx.scFull 116) (hS 0 29 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 59) B Variants.none c none E (by decide) (by decide) (by decide) (Mx.scFull 116) (hS 1 29 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 60) B Variants.none c none E (by decide) (by decide) (by decide) (Mx.scFull 120) (hS 0 30 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 61) B Variants.none c none E (by decide) (by decide) (by decide) (Mx.scFull 120) (hS 1 30 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 62) B Variants.none c none E (by decide) (by decide) (by decide) (Mx.scFull 124) (hS 0 31 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 63) B Variants.none c none E (by decide) (by decide) (by decide) (Mx.scFull 124) (hS 1 31 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 3584 512 (by decide) (by decide) (by decide) dot_S1536x512_S512x512_S1536x512_1_0_0_1_n_n (by decide) rfl (by decide) (by decide) (fun hA => hG512 hA 3584 (by decide)) ?_
  intros
  apply Mx.stepY (k := 64) B Variants.none c none E (by decide) (by decide) (by decide) (Mx.scPad 0 36 (by decide) (by decide)) (hS' 0 32 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 65) B Variants.none c none E (by decide) (by decide) (by decide) (Mx.scPad 0 36 (by decide) (by decide)) (hS' 1 32 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 66) B Variants.none c none E (by decide) (by decide) (by decide) (Mx.scPad 4 36 (by decide) (by decide)) (hS' 0 33 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 67) B Variants.none c none E (by decide) (by decide) (by decide) (Mx.scPad 4 36 (by decide) (by decide)) (hS' 1 33 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 68) B Variants.none c none E (by decide) (by decide) (by decide) (Mx.scPad 8 36 (by decide) (by decide)) (hS' 0 34 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 69) B Variants.none c none E (by decide) (by decide) (by decide) (Mx.scPad 8 36 (by decide) (by decide)) (hS' 1 34 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 70) B Variants.none c none E (by decide) (by decide) (by decide) (Mx.scPad 12 36 (by decide) (by decide)) (hS' 0 35 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 71) B Variants.none c none E (by decide) (by decide) (by decide) (Mx.scPad 12 36 (by decide) (by decide)) (hS' 1 35 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 4096 512 (by decide) (by decide) (by decide) dot_S1536x512_S512x512_S1536x512_1_0_0_1_n_n (by decide) rfl (by decide) (by decide) (fun hA => hG512 hA 4096 (by decide)) ?_
  intros
  apply Mx.stepY (k := 72) B Variants.none c none E (by decide) (by decide) (by decide) (Mx.scPad 16 36 (by decide) (by decide)) (hS' 0 36 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 73) B Variants.none c none E (by decide) (by decide) (by decide) (Mx.scPad 16 36 (by decide) (by decide)) (hS' 1 36 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 74) B Variants.none c none E (by decide) (by decide) (by decide) (Mx.scPad 20 36 (by decide) (by decide)) (hS' 0 37 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 75) B Variants.none c none E (by decide) (by decide) (by decide) (Mx.scPad 20 36 (by decide) (by decide)) (hS' 1 37 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 76) B Variants.none c none E (by decide) (by decide) (by decide) (Mx.scPad 24 36 (by decide) (by decide)) (hS' 0 38 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 77) B Variants.none c none E (by decide) (by decide) (by decide) (Mx.scPad 24 36 (by decide) (by decide)) (hS' 1 38 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 78) B Variants.none c none E (by decide) (by decide) (by decide) (Mx.scPad 28 36 (by decide) (by decide)) (hS' 0 39 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 79) B Variants.none c none E (by decide) (by decide) (by decide) (Mx.scPad 28 36 (by decide) (by decide)) (hS' 1 39 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 4608 512 (by decide) (by decide) (by decide) dot_S1536x512_S512x512_S1536x512_1_0_0_1_n_n (by decide) rfl (by decide) (by decide) (fun hA => hG512 hA 4608 (by decide)) ?_
  intros
  apply Mx.stepY (k := 80) B Variants.none c none E (by decide) (by decide) (by decide) (Mx.scPad 32 36 (by decide) (by decide)) (hS' 0 40 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 81) B Variants.none c none E (by decide) (by decide) (by decide) (Mx.scPad 32 36 (by decide) (by decide)) (hS' 1 40 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 5120 128 (by decide) (by decide) (by decide) dot_S1536x512_S512x128_S1536x128_1_0_0_1_n_n (by decide) rfl (by decide) (by decide) (fun hA => hG128 hA 5120 (by decide)) ?_
  intros
  exact hPo.trans (le_wp_ret _ _ _ _ _)

end Cert.Kernel.Gen

end
-- ==== Proof.RunBits.lean ====
/-
  The run of the printed program, from the body of its grid step.
-/
module

public import proofs.«01_k».proof.Proof.BodyBits
public import proofs.«01_k».proof.Proof.Gen.Kernel.Launch
public import proofs.«01_k».proof.Proof.Gen.Kernel.Points
public import Idealize.ShloMosaic.Lib.Pipeline.FrameBody
public import Idealize.ShloMosaic.Lib.Pipeline.ValueKit
public import Idealize.ShloMosaic.Lib.MatmulPlain
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Mx (Bufs Mat St held anyAt)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the kernel starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations, then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's branch. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- Each window's staging buffer at point `t`. -/
abbrev ms0_0 (t : Fin cfg0.N) : Memref sig .tc .vmem S512x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x5248 .fp8e5m2 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x164 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x5248 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1536 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x5248 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x5248 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1536x512 .bf16 := Memref.whole cc0_scratch0
abbrev scM0_1 : Memref sig .tc .vmem S512x5248 .bf16 := Memref.whole cc0_scratch1
abbrev scM0_2 : Memref sig .tc .vmem S2x64x128 .f32 := Memref.whole cc0_scratch2
abbrev scM0_3 : Memref sig .tc .vmem S2x2x8x128 .f32 := Memref.whole cc0_scratch3

/-- The invariant is the scratch buffers at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The grid step -/

/-- A buffer owned at known contents. -/
theorem held_of_owns (c : Dev nD) {s : Shape} {e : EltTy} (b : Memref sig .tc .vmem s e) (A : Prop) (X : s.Idx → Elt F e) :
    (owns (c : Thread nD τ) b fullShare X : sProp 𝕄) ⊢ held (c : Thread nD τ) b (fun _ => A) X := by
  unfold owns held
  iintro ⟨%f, %hf, H⟩
  iexists f
  isplitr
  · ipureintro; intro i _; rw [hf]
  · iexact H

/-- A buffer known at every index is owned at those contents. -/
theorem owns_of_held (c : Dev nD) {s : Shape} {e : EltTy} (b : Memref sig .tc .vmem s e) (X : s.Idx → Elt F e) :
    (held (c : Thread nD τ) b (fun _ => True) X : sProp 𝕄) ⊢ owns (c : Thread nD τ) b fullShare X := by
  unfold owns held
  iintro ⟨%f, %hf, H⟩
  iexists f
  isplitr
  · ipureintro; funext i; exact hf i trivial
  · iexact H

/-- A buffer owned at some contents. -/
theorem any_of_owns (c : Dev nD) {s : Shape} {e : EltTy} (b : Memref sig .tc .vmem s e) (X : s.Idx → Elt F e) :
    (owns (c : Thread nD τ) b fullShare X : sProp 𝕄) ⊢ anyAt (c : Thread nD τ) b := by
  unfold owns anyAt
  iintro ⟨%f, -, H⟩
  iexists f
  iexact H

/-- The converse. -/
theorem owns_of_any (c : Dev nD) {s : Shape} {e : EltTy} (b : Memref sig .tc .vmem s e) :
    (anyAt (c : Thread nD τ) b : sProp 𝕄) ⊢ iprop(∃ X, owns (c : Thread nD τ) b fullShare X) := by
  unfold owns anyAt
  iintro ⟨%f, H⟩
  iexists (b.view.read (Elt F) f)
  iexists f
  isplitr
  · ipureintro; rfl
  · iexact H

/-- Nothing is known of a buffer owned at some contents. -/
theorem held_of_owns_none (c : Dev nD) {s : Shape} {e : EltTy} (b : Memref sig .tc .vmem s e) {P : s.Idx → Prop} {Q : s.Idx → Elt F e}
    (hP : ∀ i, ¬ P i) (X : s.Idx → Elt F e) : (owns (c : Thread nD τ) b fullShare X : sProp 𝕄) ⊢ held (c : Thread nD τ) b P Q := by
  unfold owns held
  iintro ⟨%f, -, H⟩
  iexists f
  isplitr
  · ipureintro; exact fun i h => (hP i h).elim
  · iexact H

/-- The buffers of the body at point `t`. -/
abbrev bufs (t : Fin cfg0.N) : Bufs sig 1536 5248 164 :=
  ⟨ms0_0 t, ms0_1 t, ms0_2 t, ms0_3 t, ms0_4 t, ms0_5 t, ms0_6 t, ms0_7 t, scM0_0, scM0_1, scM0_2, scM0_3,
    hs0_4 t, hs0_6 t, Memref.isWhole_whole _, Memref.isWhole_whole _⟩

/-- The scales spread over tile `c` of rows `256 u …`, read off the block of scales. -/
def scales (Q3 : (Mat 512 164).Idx → F .f32) (u c : ℕ) : FVec F Mx.S256x128 .f32 :=
  if h : 256 * u + 256 ≤ 512 ∧ 4 * c / 128 * 128 + 128 ≤ 164 then
    Mx.scFull (4 * c % 128) (fun y => Q3 ((Mx.box (256 * u) (4 * c / 128 * 128) 256 128 h.1 h.2).toLoadRect.idx y))
  else if h : 256 * u + 256 ≤ 512 ∧ 4 * c / 128 * 128 + 36 ≤ 164 then
    Mx.scPad (4 * c % 128) 36 (by decide) (by decide) (fun y => Q3 ((Mx.box (256 * u) (4 * c / 128 * 128) 256 36 h.1 h.2).toLoadRect.idx y))
  else fun _ => Scalar.ofBits .f32 0#32

theorem scales_full (Q3 : (Mat 512 164).Idx → F .f32) (u c : ℕ) (hu : 256 * u + 256 ≤ 512) (hp : 4 * c / 128 * 128 + 128 ≤ 164) :
    Mx.scFull (4 * c % 128) (fun y => Q3 ((Mx.box (256 * u) (4 * c / 128 * 128) 256 128 hu hp).toLoadRect.idx y)) = scales Q3 u c := by
  unfold scales
  rw [dif_pos ⟨hu, hp⟩]

theorem scales_pad (Q3 : (Mat 512 164).Idx → F .f32) (u c : ℕ) (hu : 256 * u + 256 ≤ 512) (hp : 4 * c / 128 * 128 + 36 ≤ 164)
    (h : 4 * c / 128 * 128 + 128 > 164) :
    Mx.scPad (4 * c % 128) 36 (by decide) (by decide) (fun y => Q3 ((Mx.box (256 * u) (4 * c / 128 * 128) 256 36 hu hp).toLoadRect.idx y)) = scales Q3 u c := by
  unfold scales
  rw [dif_neg (fun h' => absurd h'.2 (by omega)), dif_pos ⟨hu, hp⟩]

/-! ## The pipeline's proof data -/

/-- The output windows of which nothing is said. -/
def forgets0 : Fin 8 → Bool := fun w => w.val == 3 || w.val == 4 || w.val == 5 || w.val == 6 || w.val == 7

/-- What the windows hold after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-! ## The body at a point -/

/-- What the body starts from at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 2400000 in
/-- What the tiles leave is what the point returns. -/
theorem post_of (c : Dev nD) (t : Fin cfg0.N) (D : (Mat 1536 5248).Idx → F .f32) :
    (iprop(St (bufs t) c False (iblk m c 0 t) (iblk m c 1 t) (iblk m c 2 t) (scales (iblk m c 2 t)) 24 82 D
      ∗ ((∃ r, prngReg c r) ∗ (dats m 0 c).owesAt () t.castSucc)) : sProp 𝕄) ⊢ bodyPost m c t := by
  unfold bodyPost St
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨H0, H1, H2, H3, H4, H5, H6, H7, S0, S1, S2, S3⟩, Hg, Ho⟩
  ihave H0 := (owns_of_held c (ms0_0 t) _) $$ H0
  ihave H1 := (owns_of_held c (ms0_1 t) _) $$ H1
  ihave H2 := (owns_of_held c (ms0_2 t) _) $$ H2
  ihave H3 := (Mx.held_anyAt c) $$ H3
  ihave H3 := (owns_of_any c (ms0_3 t)) $$ H3
  ihave H4 := (owns_of_any c (ms0_4 t)) $$ H4
  ihave H5 := (owns_of_any c (ms0_5 t)) $$ H5
  ihave H6 := (owns_of_any c (ms0_6 t)) $$ H6
  ihave H7 := (owns_of_any c (ms0_7 t)) $$ H7
  ihave S0 := (Mx.held_anyAt c) $$ S0
  ihave S0 := (owns_of_any c scM0_0) $$ S0
  ihave S1 := (Mx.held_anyAt c) $$ S1
  ihave S1 := (owns_of_any c scM0_1) $$ S1
  ihave S2 := (owns_of_any c scM0_2) $$ S2
  ihave S3 := (owns_of_any c scM0_3) $$ S3
  isplitl [S0 S1 S2 S3 Hg]
  · isplitl [S0 S1 S2 S3]
    · isplitl [S0]
      · iexact S0
      isplitl [S1]
      · iexact S1
      isplitl [S2]
      · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  simp only [before0_0, before0_1, before0_2]
  rw [show (dats m 0 c).Φ t.castSucc = Pipeline.ΦA spec0 c from rfl, PhiA0_eq]
  iintro ⟨⟨⟨⟨%e0, S0⟩, ⟨%e1, S1⟩, ⟨%e2, S2⟩, ⟨%e3, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have R := body_run (F := F) c (grid0.coords t) (bufs t) (hs0_0 t) (hs0_1 t) (hs0_2 t) (hs0_3 t) (hs0_5 t) (hs0_7 t) (Memref.isWhole_whole _) (Memref.isWhole_whole _)
    (A := False) (iblk m c 0 t) (iblk m c 1 t) (iblk m c 2 t) (scales (iblk m c 2 t)) (d3) (if atZero (grid0.coords t) then broadcast (Mat 1536 5248) (Scalar.ofBits .f32 0x00000000#32) else d3) d3
    Set.univ (fun _ => bodyPost m c t) iprop((∃ r, prngReg c r) ∗ (dats m 0 c).owesAt () t.castSucc)
    rfl (fun u c hu hp => scales_full _ u c hu hp) (fun u c hu hp h => scales_pad _ u c hu hp h) (fun h => h.elim) (fun h => h.elim)
    (post_of m c t _)
  iapply R
  unfold St
  isplitr [Hg Ho]
  · isplitl [H0]; · iapply (held_of_owns c (ms0_0 t) True _) $$ H0
    isplitl [H1]; · iapply (held_of_owns c (ms0_1 t) True _) $$ H1
    isplitl [H2]; · iapply (held_of_owns c (ms0_2 t) True _) $$ H2
    isplitl [H3]; · iapply (held_of_owns c (ms0_3 t) False _) $$ H3
    isplitl [H4]; · iapply (any_of_owns c (ms0_4 t) _) $$ H4
    isplitl [H5]; · iapply (any_of_owns c (ms0_5 t) _) $$ H5
    isplitl [H6]; · iapply (any_of_owns c (ms0_6 t) _) $$ H6
    isplitl [H7]; · iapply (any_of_owns c (ms0_7 t) _) $$ H7
    isplitl [S0]; · iapply (held_of_owns_none c scM0_0 (fun i h => Nat.not_lt_zero _ h) e0) $$ S0
    isplitl [S1]; · iapply (held_of_owns_none c scM0_1 (fun i h => Nat.not_lt_zero _ h) e1) $$ S1
    isplitl [S2]; · iapply (any_of_owns c scM0_2 _) $$ S2
    iapply (any_of_owns c scM0_3 _) $$ S3
  · isplitl [Hg]; · iexact Hg
    iexact Ho

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body's triple, at every point. -/
theorem body_obligation (c : Dev nD) : BodyObligation (dats m 0 c) (defs₀ (F := F)) Variants.none () Set.univ forgets0 := fun t => by
  rw [bigSep_W0, bigSep_W0, defs₀_row]
  exact triple_restated (sound_body m c t) rfl .rfl fun _ => .rfl

/-! ## The run -/

set_option backward.isDefEq.respectTransparency.types false in
/-- The run of the program. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged, every counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r (h : _ ∧ _) => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main_quiescent m ρ)

end Cert.Kernel.Gen

end
-- ==== Proof.Core.lean ====
/-
  The exponent that the kernel finds by a binary search is the one the reference finds by counting powers of two.
-/
module

public import proofs.«01_k».proof.Proof.Units
public import Idealize.ShloMosaic.Lib.IdealHost
public import Idealize.ShloMosaic.Lib.Pipeline.ValueKit

@[expose] public section

noncomputable section

namespace Mx

open Idealize.ShloMosaic

/-- What a word with the exponent field `k`, and nothing else, stands for. -/
theorem ofBits_pow (k : ℕ) (h1 : 1 ≤ k) (h2 : k ≤ 254) :
    Ideal.ofBits .f32 (BitVec.ofNat 32 (k * 2 ^ 23)) = (((2 : ℝ) ^ ((k : ℤ) - 127) : ℝ) : EReal) := by
  have e1 : ((BitVec.ofNat 32 (k * 2 ^ 23)).extractLsb' 23 8).toNat = k := by
    rw [BitVec.extractLsb'_toNat, BitVec.toNat_ofNat, Nat.shiftRight_eq_div_pow]; omega
  have e2 : ((BitVec.ofNat 32 (k * 2 ^ 23)).extractLsb' 0 23).toNat = 0 := by
    rw [BitVec.extractLsb'_toNat, BitVec.toNat_ofNat, Nat.shiftRight_eq_div_pow]; omega
  have e3 : ((BitVec.ofNat 32 (k * 2 ^ 23)).extractLsb' (8 + 23) 1 == 1#1) = false := by
    rw [beq_eq_false_iff_ne]
    intro h
    have := congrArg BitVec.toNat h
    rw [BitVec.extractLsb'_toNat, BitVec.toNat_ofNat, Nat.shiftRight_eq_div_pow] at this
    simp at this
    omega
  show Ideal.ieee 8 23 _ = _
  unfold Ideal.ieee
  simp only [e1, e2, e3]
  rw [if_neg (by omega), if_neg (by omega)]
  congr 1
  have e4 : (k : ℤ) - 127 = 23 + ((k : ℤ) - (2 ^ (8 - 1) - 1) - (23 : ℕ)) := by push_cast; norm_num
  rw [e4, zpow_add₀ (by norm_num : (2 : ℝ) ≠ 0)]
  norm_num

theorem sel_oge {α : Type} (x c : EReal) (a b : α) :
    Scalar.select (Ideal.cmp .oge x c) a b = if c ≤ x then a else b := by
  by_cases h : c ≤ x <;> simp [Scalar.select, Ideal.cmp, h]

theorem sel_olt {α : Type} (x c : EReal) (a b : α) :
    Scalar.select (Ideal.cmp .olt x c) a b = if x < c then a else b := by
  by_cases h : x < c <;> simp [Scalar.select, Ideal.cmp, h]

theorem sel_oeq {α : Type} (x c : EReal) (a b : α) :
    Scalar.select (Ideal.cmp .oeq x c) a b = if x = c then a else b := by
  by_cases h : x = c <;> simp [Scalar.select, Ideal.cmp, h]

/-! ## The search -/

/-- A step of the search at one value … -/
def yS (c d : BitVec 32) (y : EReal) : EReal := Scalar.select (Ideal.cmp .oge y (Ideal.ofBits .f32 c)) (y * Ideal.ofBits .f32 d) y
/-- … and its exponent. -/
def eS (c k : BitVec 32) (y : EReal) (e : BitVec 32) : BitVec 32 := Scalar.select (Ideal.cmp .oge y (Ideal.ofBits .f32 c)) (e + k) e

/-- The exponent field of one magnitude. -/
def fieldS (a : EReal) : BitVec 32 :=
  let y0 := Scalar.select (Ideal.cmp .olt a (Ideal.ofBits .f32 0x3F800000#32)) (a * Ideal.ofBits .f32 0x7E800000#32) a
  let e0 : BitVec 32 := Scalar.select (Ideal.cmp .olt a (Ideal.ofBits .f32 0x3F800000#32)) 1#32 127#32
  let y1 := yS 0x5F800000#32 0x1F800000#32 y0
  let e1 := eS 0x5F800000#32 64#32 y0 e0
  let y2 := yS 0x4F800000#32 0x2F800000#32 y1
  let e2 := eS 0x4F800000#32 32#32 y1 e1
  let y3 := yS 0x47800000#32 0x37800000#32 y2
  let e3 := eS 0x47800000#32 16#32 y2 e2
  let y4 := yS 0x43800000#32 0x3B800000#32 y3
  let e4 := eS 0x43800000#32 8#32 y3 e3
  let y5 := yS 0x41800000#32 0x3D800000#32 y4
  let e5 := eS 0x41800000#32 4#32 y4 e4
  let y6 := yS 0x40800000#32 0x3E800000#32 y5
  let e6 := eS 0x40800000#32 2#32 y5 e5
  let y7 := yS 0x40000000#32 0x3F000000#32 y6
  let e7 := eS 0x40000000#32 1#32 y6 e6
  IntOp.shli .vector (Scalar.select (Ideal.cmp .olt y7 (Ideal.ofBits .f32 0x3F800000#32)) 0#32 e7) 23#32

theorem yStep_at {s : Shape} {c d : BitVec 32} {y : FVec Ideal s .f32} {i : s.Idx} {Y : EReal} (h : y i = Y) : yStep c d y i = yS c d Y := by
  subst h; rfl

theorem eStep_at {s : Shape} {c k : BitVec 32} {y : FVec Ideal s .f32} {e : IVec s 32} {i : s.Idx} {Y : EReal} {E : BitVec 32} (h : y i = Y)
    (h' : e i = E) : eStep c k y e i = eS c k Y E := by
  subst h h'; rfl

theorem last_at {s : Shape} {y : FVec Ideal s .f32} {e : IVec s 32} {i : s.Idx} {Y : EReal} {E : BitVec 32} (h : y i = Y) (h' : e i = E) :
    shli (select (cmpf .olt y (lit s 0x3F800000#32)) (broadcast s 0#32) e) (broadcast s 23#32) i
      = IntOp.shli .vector (Scalar.select (Ideal.cmp .olt Y (Ideal.ofBits .f32 0x3F800000#32)) 0#32 E) 23#32 := by
  subst h h'; rfl

theorem fieldOf_at {s : Shape} (a : FVec Ideal s .f32) (i : s.Idx) : fieldOf a i = fieldS (a i) := by
  unfold fieldOf fieldS
  extract_lets Y0 E0 Y1 E1 Y2 E2 Y3 E3 Y4 E4 Y5 E5 Y6 E6 Y7 E7
  have g0 : select (cmpf .olt a (lit s 0x3F800000#32)) (mulf a (lit s 0x7E800000#32)) a i = Y0 := rfl
  have f0 : (select (cmpf .olt a (lit s 0x3F800000#32)) (broadcast s 1#32) (broadcast s 127#32) : IVec s 32) i = E0 := rfl
  clear_value Y0 E0
  have g1 : _ = Y1 := yStep_at (c := 0x5F800000#32) (d := 0x1F800000#32) g0
  have f1 : _ = E1 := eStep_at (c := 0x5F800000#32) (k := 64#32) g0 f0
  clear_value Y1 E1
  have g2 : _ = Y2 := yStep_at (c := 0x4F800000#32) (d := 0x2F800000#32) g1
  have f2 : _ = E2 := eStep_at (c := 0x4F800000#32) (k := 32#32) g1 f1
  clear_value Y2 E2
  have g3 : _ = Y3 := yStep_at (c := 0x47800000#32) (d := 0x37800000#32) g2
  have f3 : _ = E3 := eStep_at (c := 0x47800000#32) (k := 16#32) g2 f2
  clear_value Y3 E3
  have g4 : _ = Y4 := yStep_at (c := 0x43800000#32) (d := 0x3B800000#32) g3
  have f4 : _ = E4 := eStep_at (c := 0x43800000#32) (k := 8#32) g3 f3
  clear_value Y4 E4
  have g5 : _ = Y5 := yStep_at (c := 0x41800000#32) (d := 0x3D800000#32) g4
  have f5 : _ = E5 := eStep_at (c := 0x41800000#32) (k := 4#32) g4 f4
  clear_value Y5 E5
  have g6 : _ = Y6 := yStep_at (c := 0x40800000#32) (d := 0x3E800000#32) g5
  have f6 : _ = E6 := eStep_at (c := 0x40800000#32) (k := 2#32) g5 f5
  clear_value Y6 E6
  have g7 : _ = Y7 := yStep_at (c := 0x40000000#32) (d := 0x3F000000#32) g6
  have f7 : _ = E7 := eStep_at (c := 0x40000000#32) (k := 1#32) g6 f6
  clear_value Y7 E7
  exact last_at g7 f7

/-- Where the search stands: the value found so far and the exponent make up `r₀`. -/
def Inv (r₀ : ℝ) (w : ℕ) (y : EReal) (e : BitVec 32) : Prop :=
  ∃ (r : ℝ) (n : ℕ), y = (r : EReal) ∧ e = BitVec.ofNat 32 n ∧ 1 ≤ n ∧ 1 ≤ r ∧ r < 2 ^ w ∧ r₀ = r * 2 ^ ((n : ℤ) - 127)

theorem Inv.step {r₀ : ℝ} {k : ℕ} {c d : BitVec 32} {y : EReal} {e : BitVec 32} (hc : Ideal.ofBits .f32 c = (((2 : ℝ) ^ k : ℝ) : EReal))
    (hd : Ideal.ofBits .f32 d = ((((2 : ℝ) ^ k)⁻¹ : ℝ) : EReal)) (h : Inv r₀ (2 * k) y e) :
    Inv r₀ k (yS c d y) (eS c (BitVec.ofNat 32 k) y e) := by
  obtain ⟨r, n, rfl, rfl, hn, h1, h2, h3⟩ := h
  have hk : (0 : ℝ) < 2 ^ k := by positivity
  unfold yS eS
  rw [hc, hd, sel_oge, sel_oge]
  by_cases hr : (2 : ℝ) ^ k ≤ r
  · rw [if_pos (EReal.coe_le_coe_iff.2 hr), if_pos (EReal.coe_le_coe_iff.2 hr)]
    refine ⟨r * (2 ^ k)⁻¹, n + k, (EReal.coe_mul _ _).symm, ?_, by omega, ?_, ?_, ?_⟩
    · exact BitVec.eq_of_toNat_eq (by simp)
    · rw [← div_eq_mul_inv, le_div_iff₀ hk]; linarith
    · rw [← div_eq_mul_inv, div_lt_iff₀ hk, ← pow_add, ← two_mul]; exact h2
    · rw [h3]
      have : ((n + k : ℕ) : ℤ) - 127 = k + ((n : ℤ) - 127) := by push_cast; ring
      rw [this, zpow_add₀ (by norm_num : (2 : ℝ) ≠ 0), zpow_natCast]
      field_simp
  · rw [if_neg (fun h => hr (EReal.coe_le_coe_iff.1 h)), if_neg (fun h => hr (EReal.coe_le_coe_iff.1 h))]
    exact ⟨r, n, rfl, rfl, hn, h1, not_le.1 hr, h3⟩

theorem yS_low {k : ℕ} {c d : BitVec 32} {r : ℝ} (hc : Ideal.ofBits .f32 c = (((2 : ℝ) ^ k : ℝ) : EReal)) (hr : r < 1) :
    yS c d (r : EReal) = (r : EReal) := by
  unfold yS
  rw [hc, sel_oge, if_neg]
  intro h
  have : (1 : ℝ) ≤ 2 ^ k := one_le_pow₀ (by norm_num)
  linarith [EReal.coe_le_coe_iff.1 h]

theorem pw (k : ℕ) (b : BitVec 32) (h : b = BitVec.ofNat 32 ((127 + k) * 2 ^ 23)) (hk : k ≤ 127) :
    Ideal.ofBits .f32 b = (((2 : ℝ) ^ k : ℝ) : EReal) := by
  rw [h, ofBits_pow _ (by omega) (by omega)]
  have : ((127 + k : ℕ) : ℤ) - 127 = k := by push_cast; ring
  rw [this, zpow_natCast]

theorem pwi (k : ℕ) (b : BitVec 32) (h : b = BitVec.ofNat 32 ((127 - k) * 2 ^ 23)) (hk : k ≤ 126) :
    Ideal.ofBits .f32 b = ((((2 : ℝ) ^ k)⁻¹ : ℝ) : EReal) := by
  rw [h, ofBits_pow _ (by omega) (by omega)]
  have : ((127 - k : ℕ) : ℤ) - 127 = -(k : ℤ) := by omega
  rw [this, zpow_neg, zpow_natCast]

theorem one_bits : Ideal.ofBits .f32 0x3F800000#32 = ((1 : ℝ) : EReal) := by
  rw [pw 0 _ (by decide) (by decide), pow_zero]

theorem shl23 (n : ℕ) (h : n ≤ 252) : IntOp.shli .vector (BitVec.ofNat 32 n) 23#32 = BitVec.ofNat 32 (n * 2 ^ 23) := by
  unfold IntOp.shli
  rw [if_pos (by decide)]
  apply BitVec.eq_of_toNat_eq
  simp [BitVec.toNat_shiftLeft, Nat.shiftLeft_eq]

theorem fieldS_spec (r : ℝ) (h0 : 0 ≤ r) (h1 : r ≤ 2 ^ 125) :
    ∃ n : ℕ, n ≤ 252 ∧ fieldS (r : EReal) = BitVec.ofNat 32 (n * 2 ^ 23)
      ∧ (∀ i : ℕ, (2 : ℝ) ^ ((i : ℤ) - 126) ≤ r ↔ i < n) := by
  have c64 := pw 64 0x5F800000#32 (by decide) (by decide)
  have c32 := pw 32 0x4F800000#32 (by decide) (by decide)
  have c16 := pw 16 0x47800000#32 (by decide) (by decide)
  have c8 := pw 8 0x43800000#32 (by decide) (by decide)
  have c4 := pw 4 0x41800000#32 (by decide) (by decide)
  have c2 := pw 2 0x40800000#32 (by decide) (by decide)
  have c1 := pw 1 0x40000000#32 (by decide) (by decide)
  have d64 := pwi 64 0x1F800000#32 (by decide) (by decide)
  have d32 := pwi 32 0x2F800000#32 (by decide) (by decide)
  have d16 := pwi 16 0x37800000#32 (by decide) (by decide)
  have d8 := pwi 8 0x3B800000#32 (by decide) (by decide)
  have d4 := pwi 4 0x3D800000#32 (by decide) (by decide)
  have d2 := pwi 2 0x3E800000#32 (by decide) (by decide)
  have d1 := pwi 1 0x3F000000#32 (by decide) (by decide)
  have c126 := pw 126 0x7E800000#32 (by decide) (by decide)
  have key : ∀ (y : EReal) (e : BitVec 32), Inv r (2 * 64) y e →
      Scalar.select (Ideal.cmp .olt (r : EReal) (Ideal.ofBits .f32 0x3F800000#32)) ((r : EReal) * Ideal.ofBits .f32 0x7E800000#32) (r : EReal) = y →
      Scalar.select (Ideal.cmp .olt (r : EReal) (Ideal.ofBits .f32 0x3F800000#32)) 1#32 127#32 = e →
      ∃ n : ℕ, n ≤ 252 ∧ fieldS (r : EReal) = BitVec.ofNat 32 (n * 2 ^ 23)
        ∧ (∀ i : ℕ, (2 : ℝ) ^ ((i : ℤ) - 126) ≤ r ↔ i < n) := by
    intro y e hI hy he
    obtain ⟨q, n, hq, hn, n1, q1, q2, hr⟩ := (((((((hI.step c64 d64).step (k := 32) c32 d32).step (k := 16) c16 d16).step (k := 8) c8 d8).step (k := 4) c4 d4).step (k := 2) c2 d2).step (k := 1) c1 d1)
    have hp : (0 : ℝ) < 2 ^ ((n : ℤ) - 127) := by positivity
    have lo : (2 : ℝ) ^ ((n : ℤ) - 127) ≤ r := by rw [hr]; nlinarith
    have hi : r < (2 : ℝ) ^ ((n : ℤ) - 126) := by
      have : (n : ℤ) - 126 = 1 + ((n : ℤ) - 127) := by ring
      rw [hr, this, zpow_add₀ (by norm_num : (2 : ℝ) ≠ 0)]
      rw [pow_one] at q2
      rw [zpow_one]
      exact mul_lt_mul_of_pos_right q2 hp
    have nle : n ≤ 252 := by
      have h : (2 : ℝ) ^ ((n : ℤ) - 127) ≤ 2 ^ (125 : ℤ) := lo.trans (by exact_mod_cast h1)
      have := (zpow_le_zpow_iff_right₀ (by norm_num : (1 : ℝ) < 2)).1 h
      omega
    refine ⟨n, nle, ?_, fun i => ⟨fun h => ?_, fun h => ?_⟩⟩
    · unfold fieldS
      simp only [hy, he]
      rw [hq, hn, one_bits, sel_olt, if_neg (fun h => absurd (EReal.coe_lt_coe_iff.1 h) (not_lt.2 q1))]
      exact shl23 n nle
    · have := (zpow_lt_zpow_iff_right₀ (by norm_num : (1 : ℝ) < 2)).1 (h.trans_lt hi)
      omega
    · refine le_trans (zpow_le_zpow_right₀ (by norm_num : (1 : ℝ) ≤ 2) ?_) lo
      omega
  have p126 : (2 : ℝ) ^ (126 : ℕ) = 85070591730234615865843651857942052864 := by norm_num
  by_cases hr : r < 1
  · have s1 : ∀ {α : Type} (a b : α), Scalar.select (Ideal.cmp .olt (r : EReal) (Ideal.ofBits .f32 0x3F800000#32)) a b = a := by
      intro α a b
      rw [one_bits, sel_olt, if_pos (EReal.coe_lt_coe_iff.2 hr)]
    by_cases hs : (1 : ℝ) ≤ r * 2 ^ 126
    · refine key _ _ ?_ (s1 _ _) (s1 _ _)
      rw [c126]
      refine ⟨r * 2 ^ 126, 1, (EReal.coe_mul _ _).symm, rfl, le_refl _, hs, ?_, ?_⟩
      · have : (2 : ℝ) ^ (2 * 64) = 4 * 2 ^ 126 := by norm_num
        rw [this]; nlinarith [p126]
      · have : (((1 : ℕ) : ℤ) - 127) = -(126 : ℕ) := by norm_num
        rw [this, zpow_neg, zpow_natCast]
        field_simp
    · have hs' := not_le.1 hs
      refine ⟨0, by omega, ?_, fun i => ⟨fun h => ?_, fun h => absurd h (by omega)⟩⟩
      · unfold fieldS
        simp only [s1]
        rw [c126, ← EReal.coe_mul, yS_low c64 hs', yS_low c32 hs', yS_low c16 hs', yS_low c8 hs', yS_low c4 hs', yS_low c2 hs', yS_low c1 hs',
          one_bits, sel_olt, if_pos (EReal.coe_lt_coe_iff.2 hs')]
        decide
      · exfalso
        have h' : (2 : ℝ) ^ (-(126 : ℕ) : ℤ) ≤ r := le_trans (zpow_le_zpow_right₀ (by norm_num : (1 : ℝ) ≤ 2) (by omega)) h
        rw [zpow_neg, zpow_natCast, inv_le_iff_one_le_mul₀ (by positivity)] at h'
        linarith
  · have s1 : ∀ {α : Type} (a b : α), Scalar.select (Ideal.cmp .olt (r : EReal) (Ideal.ofBits .f32 0x3F800000#32)) a b = b := by
      intro α a b
      rw [one_bits, sel_olt, if_neg (fun h => hr (EReal.coe_lt_coe_iff.1 h))]
    refine key _ _ ?_ (s1 _ _) (s1 _ _)
    refine ⟨r, 127, rfl, rfl, by decide, not_lt.1 hr, h1.trans_lt ?_, by norm_num⟩
    norm_num

/-- The scale a field stands for … -/
def scaleS (b : BitVec 32) : EReal :=
  Scalar.select (IntOp.cmpi .eq b 0#32) (Ideal.ofBits .f32 0x3F800000#32) (Ideal.ofBits .f32 (b + 8388608#32))
/-- … and one over it. -/
def invS (b : BitVec 32) : EReal :=
  Scalar.select (IntOp.cmpi .eq b 0#32) (Ideal.ofBits .f32 0x3F800000#32) (Ideal.ofBits .f32 (2122317824#32 - b))

theorem scaleOf_at {s : Shape} (b : IVec s 32) (i : s.Idx) : scaleOf (F := Ideal) b i = scaleS (b i) := rfl
theorem invOf_at {s : Shape} (b : IVec s 32) (i : s.Idx) : invOf (F := Ideal) b i = invS (b i) := rfl

theorem sel_eq {α : Type} (x y : BitVec 32) (a b : α) : Scalar.select (IntOp.cmpi .eq x y) a b = if x = y then a else b := by
  by_cases h : x = y
  · subst h; simp [Scalar.select, IntOp.cmpi]
  · have h' : (x == y) = false := by simpa using h
    simp [Scalar.select, IntOp.cmpi, h', h]

theorem field_ne (n : ℕ) (h : n ≤ 252) (h0 : n ≠ 0) : BitVec.ofNat 32 (n * 2 ^ 23) ≠ 0#32 := by
  intro e
  have := congrArg BitVec.toNat e
  simp at this
  omega

theorem field_up (n : ℕ) : BitVec.ofNat 32 (n * 2 ^ 23) + 8388608#32 = BitVec.ofNat 32 ((n + 1) * 2 ^ 23) := by
  have e : 8388608#32 = BitVec.ofNat 32 (2 ^ 23) := by decide
  rw [Nat.add_one_mul, BitVec.ofNat_add, e]

theorem field_down (n : ℕ) (h : n ≤ 252) : 2122317824#32 - BitVec.ofNat 32 (n * 2 ^ 23) = BitVec.ofNat 32 ((253 - n) * 2 ^ 23) := by
  have e : 253 * 2 ^ 23 = (253 - n) * 2 ^ 23 + n * 2 ^ 23 := by rw [← Nat.add_mul, Nat.sub_add_cancel (by omega)]
  have e' : 2122317824#32 = BitVec.ofNat 32 (253 * 2 ^ 23) := by decide
  rw [e', e, BitVec.ofNat_add, BitVec.add_sub_cancel]

theorem scaleS_spec (n : ℕ) (h : n ≤ 252) :
    scaleS (BitVec.ofNat 32 (n * 2 ^ 23)) = ((if n = 0 then 1 else (2 : ℝ) ^ ((n : ℤ) - 126) : ℝ) : EReal) := by
  unfold scaleS
  rw [sel_eq]
  by_cases h0 : n = 0
  · subst h0; rw [if_pos (by decide), if_pos rfl, one_bits]
  · rw [if_neg (field_ne n h h0), if_neg h0]
    rw [field_up, ofBits_pow _ (by omega) (by omega)]
    congr 2
    push_cast; ring

theorem invS_spec (n : ℕ) (h : n ≤ 252) :
    invS (BitVec.ofNat 32 (n * 2 ^ 23)) = ((if n = 0 then 1 else (2 : ℝ) ^ (126 - (n : ℤ)) : ℝ) : EReal) := by
  unfold invS
  rw [sel_eq]
  by_cases h0 : n = 0
  · subst h0; rw [if_pos (by decide), if_pos rfl, one_bits]
  · rw [if_neg (field_ne n h h0), if_neg h0]
    rw [field_down n h, ofBits_pow _ (by omega) (by omega)]
    congr 2
    omega

/-! ## The count -/

/-- A power of two the reference counts. -/
def powS (i : ℕ) : EReal := Ideal.exp2 ((((BitVec.ofNat 32 i).toInt : ℝ) : EReal) - Ideal.ofBits .f32 0x42FC0000#32)
/-- How many of them are at most `a`. -/
def cntS (a : EReal) : EReal :=
  ∑ i : Fin 252, Scalar.select (Ideal.cmp .oge a (powS i.val)) (Ideal.ofBits .f32 0x3F800000#32) (Ideal.ofBits .f32 0x00000000#32)
/-- The exponent. -/
def expS (a : EReal) : EReal :=
  Scalar.select (Ideal.cmp .oeq (cntS a) (Ideal.ofBits .f32 0x00000000#32)) (Ideal.ofBits .f32 0x00000000#32) (cntS a - Ideal.ofBits .f32 0x42FC0000#32)

theorem bits126 : Ideal.ofBits .f32 0x42FC0000#32 = ((126 : ℝ) : EReal) := by
  simp [Ideal.ofBits, Ideal.ieee, -EReal.coe_mul]; norm_num

theorem zero_bits : Ideal.ofBits .f32 0x00000000#32 = ((0 : ℝ) : EReal) := by
  rw [EReal.coe_zero]; exact Ideal.ofBits_zero_f32

theorem exp2_int (z : ℤ) : Ideal.exp2 (((z : ℝ)) : EReal) = (((2 : ℝ) ^ z : ℝ) : EReal) := by
  rw [Ideal.exp2_coe]
  exact congrArg _ (Real.rpow_intCast 2 z)

theorem powS_eq (i : ℕ) (h : i < 252) : powS i = (((2 : ℝ) ^ ((i : ℤ) - 126) : ℝ) : EReal) := by
  unfold powS
  have e : (BitVec.ofNat 32 i).toInt = (i : ℤ) := by
    rw [BitVec.toInt_eq_toNat_of_lt (by rw [BitVec.toNat_ofNat]; omega), BitVec.toNat_ofNat]; omega
  rw [e, bits126, ← EReal.coe_sub, ← exp2_int]
  congr 2
  push_cast; rfl

theorem count (n m : ℕ) : ∑ i ∈ Finset.range m, (if i < n then ((1 : ℝ) : EReal) else ((0 : ℝ) : EReal)) = (((min m n : ℕ) : ℝ) : EReal) := by
  induction m with
  | zero => simp
  | succ m ih =>
    rw [Finset.sum_range_succ, ih]
    by_cases h : m < n
    · rw [if_pos h, ← EReal.coe_add, min_eq_left (by omega), min_eq_left (by omega)]; push_cast; rfl
    · rw [if_neg h, ← EReal.coe_add, add_zero, min_eq_right (by omega), min_eq_right (by omega)]

/-- The kernel's scale and its inverse are the powers of the reference's exponent. -/
theorem core (a : EReal) (ha : 0 ≤ a) :
    scaleS (fieldS (min a (Ideal.ofBits .f32 0x7E000000#32))) = Ideal.exp2 (expS a)
      ∧ invS (fieldS (min a (Ideal.ofBits .f32 0x7E000000#32))) = Ideal.exp2 (Ideal.ofBits .f32 0x00000000#32 - expS a) := by
  have c125 := pw 125 0x7E000000#32 (by decide) (by decide)
  rw [c125]
  obtain ⟨r, hr⟩ : ∃ r : ℝ, min a (((2 : ℝ) ^ 125 : ℝ) : EReal) = (r : EReal) := by
    refine ⟨_, (EReal.coe_toReal (ne_of_lt ((min_le_right _ _).trans_lt (EReal.coe_lt_top _))) ?_).symm⟩
    refine ne_of_gt (lt_of_lt_of_le EReal.bot_lt_zero (le_min ha ?_))
    exact_mod_cast (by positivity : (0 : ℝ) ≤ 2 ^ 125)
  have r0 : 0 ≤ r := by
    have : (0 : EReal) ≤ (r : EReal) := by
      rw [← hr]; refine le_min ha ?_; exact_mod_cast (by positivity : (0 : ℝ) ≤ 2 ^ 125)
    exact_mod_cast this
  have r1 : r ≤ 2 ^ 125 := EReal.coe_le_coe_iff.1 (hr ▸ min_le_right _ _)
  obtain ⟨n, hn, hf, hi⟩ := fieldS_spec r r0 r1
  have hc : cntS a = ((n : ℝ) : EReal) := by
    unfold cntS
    rw [Fin.sum_univ_eq_sum_range (fun i => Scalar.select (Ideal.cmp .oge a (powS i)) (Ideal.ofBits .f32 0x3F800000#32) (Ideal.ofBits .f32 0x00000000#32)) 252]
    rw [Finset.sum_congr rfl (g := fun i => if i < n then ((1 : ℝ) : EReal) else ((0 : ℝ) : EReal)), count, min_eq_right hn]
    intro i hi'
    have h252 := Finset.mem_range.1 hi'
    rw [sel_oge, one_bits, zero_bits, powS_eq i h252]
    refine if_congr ?_ rfl rfl
    rw [← hi i, ← EReal.coe_le_coe_iff (y := r), ← hr, le_min_iff]
    refine ⟨fun h => ⟨h, EReal.coe_le_coe_iff.2 ?_⟩, fun h => h.1⟩
    have : (2 : ℝ) ^ ((i : ℤ) - 126) ≤ 2 ^ ((125 : ℕ) : ℤ) := zpow_le_zpow_right₀ (by norm_num) (by omega)
    rwa [zpow_natCast] at this
  have he : expS a = (((if n = 0 then 0 else (n : ℤ) - 126 : ℤ) : ℝ) : EReal) := by
    unfold expS
    rw [hc, zero_bits, bits126, sel_oeq, ← EReal.coe_sub]
    by_cases h0 : n = 0
    · subst h0; simp
    · rw [if_neg (by rw [EReal.coe_eq_coe_iff]; exact_mod_cast h0), if_neg h0]; push_cast; rfl
  rw [hr, hf, scaleS_spec n hn, invS_spec n hn, he, zero_bits, ← EReal.coe_sub, exp2_int]
  refine ⟨?_, ?_⟩
  · by_cases h0 : n = 0 <;> simp [h0]
  · have : (0 : ℝ) - (((if n = 0 then 0 else (n : ℤ) - 126 : ℤ)) : ℝ) = ((if n = 0 then 0 else 126 - (n : ℤ) : ℤ) : ℝ) := by
      by_cases h0 : n = 0
      · simp [h0]
      · rw [if_neg h0, if_neg h0]; push_cast; ring
    rw [this, exp2_int]
    by_cases h0 : n = 0 <;> simp [h0]

end Mx

end
-- ==== Proof.Hat.lean ====
/-
  The values the kernel's operands hold, element by element: a block of 32 rows quantised by the exponent of its greatest magnitude.
-/
module

public import proofs.«01_k».proof.Proof.Steps
public import proofs.«01_k».proof.Proof.Core

@[expose] public section

set_option maxRecDepth 16384

noncomputable section

namespace Mx

open Idealize.ShloMosaic

/-- The greatest magnitude of a block. -/
def amax (v : Fin 32 → EReal) : EReal := Finset.univ.fold max ⊥ (fun r => max (v r) (-(v r)))

/-- A block quantised: its elements over its scale, clipped to `[lo, hi]`, times the scale; `m` is one over the greatest code. -/
def hatS (m lo hi : BitVec 32) (v : Fin 32 → EReal) (r : Fin 32) : EReal :=
  min (Ideal.ofBits .f32 hi) (max (Ideal.ofBits .f32 lo)
    (v r * Ideal.exp2 (Ideal.ofBits .f32 0x00000000#32 - expS (amax v * Ideal.ofBits .f32 m)))) * Ideal.exp2 (expS (amax v * Ideal.ofBits .f32 m))

theorem amax_le (v : Fin 32 → EReal) (z : EReal) : amax v ≤ z ↔ ∀ r, max (v r) (-(v r)) ≤ z := by
  unfold amax
  rw [Finset.fold_max_le]
  simp

theorem amax_nonneg (v : Fin 32 → EReal) : 0 ≤ amax v := by
  have h := (amax_le v (amax v)).1 (le_refl _) 0
  rcases le_total 0 (v 0) with h0 | h0
  · exact (h0.trans (le_max_left _ _)).trans h
  · exact ((EReal.neg_nonneg.2 h0).trans (le_max_right _ _)).trans h

theorem bot_f32 : Ideal.ofBits .f32 0xFF800000#32 = ⊥ := by
  show Ideal.ieee 8 23 0xFF800000#32 = ⊥
  simp [Ideal.ieee]

theorem bot_bf16 : Ideal.ofBits .bf16 0xFF80#16 = ⊥ := by
  show Ideal.ieee 8 7 0xFF80#16 = ⊥
  simp [Ideal.ieee]

theorem mr_le {φ : FTy} {s t : Shape} {a : Fin s.rank} (src : FVec Ideal s φ) (acc : BitVec φ.bits) (h : s.Reduces [a] t) (hφ : FKind.Formats φ)
    (hacc : acc = FKind.maximumf.neutral φ hφ) (hb : Ideal.ofBits φ acc = ⊥) (j : t.Idx) (z : EReal) :
    multiReduction .maximumf [a] t src acc h hφ hacc j ≤ z ↔ ∀ k, src (h.lift j k) ≤ z := by
  rw [Ideal.multiReduction_maximumf_single]
  refine (Finset.fold_max_le z).trans ?_
  constructor
  · intro h k; exact h.2 k (Finset.mem_univ _)
  · intro h'; exact ⟨by show Ideal.ofBits φ acc ≤ z; rw [hb]; exact bot_le, fun k _ => h' k⟩

/-! ## The greatest magnitude -/

theorem groupMax_le (A : FVec Ideal S64x128 .f32) (b : Fin 8) (l : Fin 128) (z : EReal) :
    groupMax A (ValueIdx.ix2 b l) ≤ z ↔ ∀ s : Fin 8, A (ValueIdx.ix2 (Fin.ofNat 64 (8 * b.val + s.val)) l) ≤ z := by
  have hr : ∀ (s : ℕ) (h : s < 8), A ((rows8 s (rows8_inb h)).idx (ValueIdx.ix2 b l)) = A (ValueIdx.ix2 (Fin.ofNat 64 (8 * b.val + s)) l) := by
    intro s h
    congr 1
    funext x
    match x with
    | ⟨0, _⟩ =>
      refine Fin.ext ?_
      show s + 8 * b.val = (8 * b.val + s) % 64
      omega
    | ⟨1, _⟩ =>
      refine Fin.ext ?_
      show 0 + 1 * l.val = l.val
      omega
  show max (max (max (max (max (max (max (A ((rows8 0 (rows8_inb (by decide))).idx (ValueIdx.ix2 b l))) (A ((rows8 1 (rows8_inb (by decide))).idx (ValueIdx.ix2 b l))))
    (A ((rows8 2 (rows8_inb (by decide))).idx (ValueIdx.ix2 b l)))) (A ((rows8 3 (rows8_inb (by decide))).idx (ValueIdx.ix2 b l)))) (A ((rows8 4 (rows8_inb (by decide))).idx (ValueIdx.ix2 b l))))
    (A ((rows8 5 (rows8_inb (by decide))).idx (ValueIdx.ix2 b l)))) (A ((rows8 6 (rows8_inb (by decide))).idx (ValueIdx.ix2 b l)))) (A ((rows8 7 (rows8_inb (by decide))).idx (ValueIdx.ix2 b l))) ≤ z ↔ _
  simp only [max_le_iff]
  rw [hr 0 (by decide), hr 1 (by decide), hr 2 (by decide), hr 3 (by decide), hr 4 (by decide), hr 5 (by decide), hr 6 (by decide), hr 7 (by decide)]
  constructor
  · rintro ⟨⟨⟨⟨⟨⟨⟨h0, h1⟩, h2⟩, h3⟩, h4⟩, h5⟩, h6⟩, h7⟩ s
    match s with
    | ⟨0, _⟩ => exact h0
    | ⟨1, _⟩ => exact h1
    | ⟨2, _⟩ => exact h2
    | ⟨3, _⟩ => exact h3
    | ⟨4, _⟩ => exact h4
    | ⟨5, _⟩ => exact h5
    | ⟨6, _⟩ => exact h6
    | ⟨7, _⟩ => exact h7
  · intro h
    exact ⟨⟨⟨⟨⟨⟨⟨h 0, h 1⟩, h 2⟩, h 3⟩, h 4⟩, h 5⟩, h 6⟩, h 7⟩

theorem extf_at {s : Shape} {φ ψ : FTy} (v : FVec Ideal s φ) (h : φ.bits < ψ.bits) (i : s.Idx) : extf (F := Ideal) ψ v h i = v i := rfl

theorem truncf_at {s : Shape} {φ ψ : FTy} (v : FVec Ideal s φ) (h : ψ.bits < φ.bits) (i : s.Idx) : truncf (F := Ideal) ψ v h i = v i := rfl

theorem xMax_le (X : FVec Ideal S256x128 .bf16) (p : Fin 64) (l : Fin 128) (z : EReal) :
    xMax X (ValueIdx.ix2 p l) ≤ z ↔ ∀ (u t : Fin 2),
      max (X (ValueIdx.ix2 (Fin.ofNat 256 (32 * (p.val / 8) + 16 * t.val + 8 * u.val + p.val % 8)) l))
        (-(X (ValueIdx.ix2 (Fin.ofNat 256 (32 * (p.val / 8) + 16 * t.val + 8 * u.val + p.val % 8)) l))) ≤ z := by
  have hp := p.isLt
  unfold xMax
  rw [shapeCast_apply _ _ (ValueIdx.ix2 p l) (ValueIdx.ix3 (Fin.ofNat 8 (p.val / 8)) (Fin.ofNat 8 (p.val % 8)) l) (by
    rw [Shape.rowMajor_val_two, Shape.rowMajor_val_three]
    show (p.val / 8 % 8 * 8 + p.val % 8 % 8) * 128 + l.val = p.val * 128 + l.val
    omega)]
  refine (mr_le (φ := .f32) _ _ _ _ _ bot_f32 _ _).trans ?_
  refine forall_congr' fun u => ?_
  have hu : u.val < 2 := u.isLt
  rw [shapeCast_apply _ _ _ (ValueIdx.ix3 (Fin.ofNat 8 (p.val / 8)) (Fin.ofNat 16 (8 * u.val + p.val % 8)) l) (by
    rw [Shape.rowMajor_val_four, Shape.rowMajor_val_three]
    show (p.val / 8 % 8 * 16 + (8 * u.val + p.val % 8) % 16) * 128 + l.val = ((p.val / 8 % 8 * 2 + u.val) * 8 + p.val % 8 % 8) * 128 + l.val
    omega)]
  rw [extf_at]
  refine (mr_le (φ := .bf16) _ _ _ _ _ bot_bf16 _ _).trans ?_
  refine forall_congr' fun t => ?_
  have ht : t.val < 2 := t.isLt
  rw [shapeCast_apply _ _ _ (ValueIdx.ix2 (Fin.ofNat 256 (32 * (p.val / 8) + 16 * t.val + 8 * u.val + p.val % 8)) l) (by
    rw [Shape.rowMajor_val_four, Shape.rowMajor_val_two]
    show (32 * (p.val / 8) + 16 * t.val + 8 * u.val + p.val % 8) % 256 * 128 + l.val
      = ((p.val / 8 % 8 * 2 + t.val) * 16 + (8 * u.val + p.val % 8) % 16) * 128 + l.val
    omega)]
  exact Iff.rfl

theorem yMax_le (Y : FVec Ideal S256x128 .f32) (p : Fin 64) (l : Fin 128) (z : EReal) :
    yMax Y (ValueIdx.ix2 p l) ≤ z ↔ ∀ t : Fin 4,
      max (Y (ValueIdx.ix2 (Fin.ofNat 256 (32 * (p.val / 8) + 8 * t.val + p.val % 8)) l))
        (-(Y (ValueIdx.ix2 (Fin.ofNat 256 (32 * (p.val / 8) + 8 * t.val + p.val % 8)) l))) ≤ z := by
  have hp := p.isLt
  unfold yMax
  rw [shapeCast_apply _ _ (ValueIdx.ix2 p l) (ValueIdx.ix3 (Fin.ofNat 8 (p.val / 8)) (Fin.ofNat 8 (p.val % 8)) l) (by
    rw [Shape.rowMajor_val_two, Shape.rowMajor_val_three]
    show (p.val / 8 % 8 * 8 + p.val % 8 % 8) * 128 + l.val = p.val * 128 + l.val
    omega)]
  refine (mr_le (φ := .f32) _ _ _ _ _ bot_f32 _ _).trans ?_
  refine forall_congr' fun t => ?_
  have ht : t.val < 4 := t.isLt
  rw [shapeCast_apply _ _ _ (ValueIdx.ix2 (Fin.ofNat 256 (32 * (p.val / 8) + 8 * t.val + p.val % 8)) l) (by
    rw [Shape.rowMajor_val_four, Shape.rowMajor_val_two]
    show (32 * (p.val / 8) + 8 * t.val + p.val % 8) % 256 * 128 + l.val = ((p.val / 8 % 8 * 4 + t.val) * 8 + p.val % 8 % 8) * 128 + l.val
    omega)]
  exact Iff.rfl

/-- Row `32 b + r` of a tile, as a block's element. -/
abbrev block (X : S256x128.Idx → EReal) (b : Fin 8) (l : Fin 128) : Fin 32 → EReal := fun r => X (ValueIdx.ix2 (Fin.ofNat 256 (32 * b.val + r.val)) l)

theorem xAmax (X : FVec Ideal S256x128 .bf16) (b : Fin 8) (l : Fin 128) : groupMax (xMax X) (ValueIdx.ix2 b l) = amax (block X b l) := by
  refine eq_of_forall_ge_iff fun z => ?_
  rw [groupMax_le, amax_le]
  have hb := b.isLt
  constructor
  · intro h r
    have hr := r.isLt
    have := (xMax_le X _ l z).1 (h (Fin.ofNat 8 (r.val % 8))) (Fin.ofNat 2 (r.val / 8 % 2)) (Fin.ofNat 2 (r.val / 16))
    have e : 32 * ((8 * b.val + r.val % 8 % 8) % 64 / 8) + 16 * (r.val / 16 % 2) + 8 * (r.val / 8 % 2 % 2) + (8 * b.val + r.val % 8 % 8) % 64 % 8
        = 32 * b.val + r.val := by omega
    simp only [Fin.val_ofNat, e] at this
    exact this
  · intro h s
    rw [xMax_le]
    intro u t
    have hs := s.isLt
    have hu := u.isLt
    have ht := t.isLt
    have := h ⟨16 * t.val + 8 * u.val + s.val, by omega⟩
    have e : 32 * ((8 * b.val + s.val) % 64 / 8) + 16 * t.val + 8 * u.val + (8 * b.val + s.val) % 64 % 8
        = 32 * b.val + (16 * t.val + 8 * u.val + s.val) := by omega
    simp only [Fin.val_ofNat, e]
    exact this

theorem yAmax (Y : FVec Ideal S256x128 .f32) (b : Fin 8) (l : Fin 128) : groupMax (yMax Y) (ValueIdx.ix2 b l) = amax (block Y b l) := by
  refine eq_of_forall_ge_iff fun z => ?_
  rw [groupMax_le, amax_le]
  have hb := b.isLt
  constructor
  · intro h r
    have hr := r.isLt
    have := (yMax_le Y _ l z).1 (h (Fin.ofNat 8 (r.val % 8))) (Fin.ofNat 4 (r.val / 8))
    have e : 32 * ((8 * b.val + r.val % 8 % 8) % 64 / 8) + 8 * (r.val / 8 % 4) + (8 * b.val + r.val % 8 % 8) % 64 % 8
        = 32 * b.val + r.val := by omega
    simp only [Fin.val_ofNat, e] at this
    exact this
  · intro h s
    rw [yMax_le]
    intro t
    have hs := s.isLt
    have ht := t.isLt
    have := h ⟨8 * t.val + s.val, by omega⟩
    have e : 32 * ((8 * b.val + s.val) % 64 / 8) + 8 * t.val + (8 * b.val + s.val) % 64 % 8
        = 32 * b.val + (8 * t.val + s.val) := by omega
    simp only [Fin.val_ofNat, e]
    exact this

/-! ## The scales -/

theorem fields_at (m : BitVec 32) (A : FVec Ideal S8x128 .f32) (i : S8x128.Idx) :
    fields m A i = fieldS (min (A i * Ideal.ofBits .f32 m) (Ideal.ofBits .f32 0x7E000000#32)) := fieldOf_at _ i

theorem pos_x : (0 : EReal) ≤ Ideal.ofBits .f32 0x3B124925#32 := by
  have : Ideal.ofBits .f32 0x3B124925#32 = ((9586981 * 2 ^ (-32 : ℤ) : ℝ) : EReal) := by
    show Ideal.ieee 8 23 0x3B124925#32 = _
    simp [Ideal.ieee, -EReal.coe_mul]
  rw [this]
  exact_mod_cast (by positivity : (0 : ℝ) ≤ 9586981 * 2 ^ (-32 : ℤ))

theorem pos_y : (0 : EReal) ≤ Ideal.ofBits .f32 0x37924925#32 := by
  have : Ideal.ofBits .f32 0x37924925#32 = ((9586981 * 2 ^ (-39 : ℤ) : ℝ) : EReal) := by
    show Ideal.ieee 8 23 0x37924925#32 = _
    simp [Ideal.ieee, -EReal.coe_mul]
  rw [this]
  exact_mod_cast (by positivity : (0 : ℝ) ≤ 9586981 * 2 ^ (-39 : ℤ))

theorem xScale (X : FVec Ideal S256x128 .bf16) (b : Fin 8) (l : Fin 128) :
    scaleOf (F := Ideal) (xField X) (ValueIdx.ix2 b l) = Ideal.exp2 (expS (amax (block X b l) * Ideal.ofBits .f32 0x3B124925#32))
      ∧ invOf (F := Ideal) (xField X) (ValueIdx.ix2 b l)
        = Ideal.exp2 (Ideal.ofBits .f32 0x00000000#32 - expS (amax (block X b l) * Ideal.ofBits .f32 0x3B124925#32)) := by
  rw [scaleOf_at, invOf_at]
  unfold xField
  rw [fields_at, xAmax]
  exact core _ (EReal.mul_nonneg (amax_nonneg _) pos_x)

theorem yScale (Y : FVec Ideal S256x128 .f32) (b : Fin 8) (l : Fin 128) :
    scaleOf (F := Ideal) (yField Y) (ValueIdx.ix2 b l) = Ideal.exp2 (expS (amax (block Y b l) * Ideal.ofBits .f32 0x37924925#32))
      ∧ invOf (F := Ideal) (yField Y) (ValueIdx.ix2 b l)
        = Ideal.exp2 (Ideal.ofBits .f32 0x00000000#32 - expS (amax (block Y b l) * Ideal.ofBits .f32 0x37924925#32)) := by
  rw [scaleOf_at, invOf_at]
  unfold yField
  rw [fields_at, yAmax]
  exact core _ (EReal.mul_nonneg (amax_nonneg _) pos_y)

/-! ## The values -/

theorem asRow_at (v : FVec Ideal S1x1x1x128 .f32) (l : Fin 128) : asRow v (ValueIdx.ix2 0 l) = v (ValueIdx.ix4 0 0 0 l) := by
  rw [asRow, shapeCast_apply _ _ (ValueIdx.ix2 0 l) (ValueIdx.ix2 0 l) rfl, shapeCast_apply _ _ (ValueIdx.ix2 0 l) (ValueIdx.ix4 0 0 0 l) (by
    rw [Shape.rowMajor_val_four, Shape.rowMajor_val_two]
    show ((0 * 1 + 0) * 1 + 0) * 128 + l.val = 0 * 128 + l.val
    omega)]

theorem asRow16_at (v : FVec Ideal S1x1x1x128 .f32) (r : Fin 16) (l : Fin 128) : asRow16 v (ValueIdx.ix3 0 r l) = v (ValueIdx.ix4 0 0 0 l) := by
  rw [asRow16, shapeCast_apply _ _ (ValueIdx.ix3 0 r l) (ValueIdx.ix2 r l) (by
    rw [Shape.rowMajor_val_three, Shape.rowMajor_val_two]
    show r.val * 128 + l.val = (0 * 16 + r.val) * 128 + l.val
    omega)]
  show broadcastTo S16x128 (asRow v) (by decide) (ValueIdx.ix2 r l) = _
  rw [broadcastTo_apply _ _ (ValueIdx.ix2 r l) (ValueIdx.ix2 0 l) (by intro a; match a with | ⟨0, _⟩ => rfl | ⟨1, _⟩ => rfl), asRow_at]

theorem spread16 (v : FVec Ideal S1x16x128 .bf16) (h : S1x16x128.Broadcasts S2x16x128) (g : Fin 2) (r : Fin 16) (l : Fin 128) :
    broadcastTo S2x16x128 v h (ValueIdx.ix3 g r l) = v (ValueIdx.ix3 0 r l) :=
  broadcastTo_apply _ _ _ _ (by intro a; match a with | ⟨0, _⟩ => rfl | ⟨1, _⟩ => rfl | ⟨2, _⟩ => rfl)

theorem rm_32 (r : Fin 32) (l : Fin 128) :
    (S2x16x128.rowMajor (ValueIdx.ix3 (Fin.ofNat 2 (r.val / 16)) (Fin.ofNat 16 r.val) l)).val = (S32x128.rowMajor (ValueIdx.ix2 r l)).val := by
  rw [Shape.rowMajor_val_three, Shape.rowMajor_val_two]
  have hr := r.isLt
  show (r.val / 16 % 2 * 16 + r.val % 16) * 128 + l.val = r.val * 128 + l.val
  omega

theorem hatOf_at {φ : FTy} (h : φ.bits < FTy.bits .bf16) (q : FVec Ideal S32x128 φ) (sc : FVec Ideal S1x1x1x128 .f32) (r : Fin 32) (l : Fin 128) :
    hatOf h q sc (ValueIdx.ix2 r l) = q (ValueIdx.ix2 r l) * sc (ValueIdx.ix4 0 0 0 l) := by
  unfold hatOf
  rw [shapeCast_apply _ _ (ValueIdx.ix2 r l) _ (rm_32 r l)]
  show shapeCast S2x16x128 (extf .bf16 q h) _ (ValueIdx.ix3 _ _ l) * broadcastTo S2x16x128 (asRow16 sc) _ (ValueIdx.ix3 _ _ l) = _
  rw [shapeCast_apply _ _ _ (ValueIdx.ix2 r l) (rm_32 r l).symm, spread16, asRow16_at]
  rfl

theorem slice_at {φ : FTy} (X : FVec Ideal S256x128 φ) (b : Fin 8) (h : S256x128.Slices ![32 * b.val, 0] S32x128) (r : Fin 32) (l : Fin 128) :
    extractStridedSlice S32x128 ![32 * b.val, 0] X h (ValueIdx.ix2 r l) = block X b l r := by
  have hb := b.isLt
  have hr := r.isLt
  exact extractStridedSlice_apply _ _ _ _ _ (by
    intro a
    match a with
    | ⟨0, _⟩ =>
      show (32 * b.val + r.val) % 256 = 32 * b.val + r.val
      omega
    | ⟨1, _⟩ =>
      show l.val = 0 + l.val
      omega)

theorem xh_at (X : FVec Ideal S256x128 .bf16) (b : Fin 8) (r : Fin 32) (l : Fin 128) :
    xh X b (ValueIdx.ix2 r l) = hatS 0x3B124925#32 0xC3E00000#32 0x43E00000#32 (block X b l) r := by
  unfold xh
  rw [hatOf_at]
  show xq X b (ValueIdx.ix2 r l) * scaleOf (F := Ideal) (xField X) (ValueIdx.ix2 b l) = _
  rw [(xScale X b l).1]
  unfold hatS
  congr 1
  unfold xq xCodes
  rw [truncf_at, shapeCast_apply _ _ (ValueIdx.ix2 r l) _ (rm_32 r l)]
  show min (Ideal.ofBits .f32 0x43E00000#32 : EReal) (max (Ideal.ofBits .f32 0xC3E00000#32 : EReal)
    ((shapeCast S2x16x128 (extractStridedSlice S32x128 ![32 * b.val, 0] X (slices_rows b.2)) (by decide)
        (ValueIdx.ix3 (Fin.ofNat 2 (r.val / 16)) (Fin.ofNat 16 r.val) l) : EReal)
      * (broadcastTo S2x16x128 (asRow16 (F := Ideal) (rowOf (invOf (xField X)) b)) (by decide)
        (ValueIdx.ix3 (Fin.ofNat 2 (r.val / 16)) (Fin.ofNat 16 r.val) l) : EReal))) = _
  rw [shapeCast_apply _ _ _ (ValueIdx.ix2 r l) (rm_32 r l).symm, spread16, asRow16_at, slice_at]
  show min _ (max _ (_ * invOf (F := Ideal) (xField X) (ValueIdx.ix2 b l))) = _
  rw [(xScale X b l).2]

theorem yh_at (Y : FVec Ideal S256x128 .f32) (b : Fin 8) (r : Fin 32) (l : Fin 128) :
    yh Y b (ValueIdx.ix2 r l) = hatS 0x37924925#32 0xC7600000#32 0x47600000#32 (block Y b l) r := by
  unfold yh
  rw [hatOf_at]
  show yq Y b (ValueIdx.ix2 r l) * scaleOf (F := Ideal) (yField Y) (ValueIdx.ix2 b l) = _
  rw [(yScale Y b l).1]
  unfold hatS
  congr 1
  unfold yq yCodes
  show min (Ideal.ofBits .f32 0x47600000#32) (max (Ideal.ofBits .f32 0xC7600000#32)
    (extractStridedSlice S32x128 _ Y _ (ValueIdx.ix2 r l) * broadcastTo S32x128 (asRow _) _ (ValueIdx.ix2 r l))) = _
  rw [slice_at, broadcastTo_apply _ _ (ValueIdx.ix2 r l) (ValueIdx.ix2 0 l) (by intro a; match a with | ⟨0, _⟩ => rfl | ⟨1, _⟩ => rfl), asRow_at]
  show min _ (max _ (_ * invOf (F := Ideal) (yField Y) (ValueIdx.ix2 b l))) = _
  rw [(yScale Y b l).2]

theorem stack_at (h : Fin 8 → FVec Ideal S32x128 .bf16) (b : Fin 8) (r : Fin 32) (l : Fin 128) :
    stackT (h 0) (h 1) (h 2) (h 3) (h 4) (h 5) (h 6) (h 7) (ValueIdx.ix2 l (Fin.ofNat 256 (32 * b.val + r.val))) = h b (ValueIdx.ix2 r l) := by
  unfold stackT
  rw [transpose_apply _ _ _ _ (ValueIdx.ix2 (Fin.ofNat 256 (32 * b.val + r.val)) l) (by intro a; match a with | ⟨0, _⟩ => rfl | ⟨1, _⟩ => rfl)]
  refine concatenate_apply_piece 0 [⟨S32x128, h 0⟩, ⟨S32x128, h 1⟩, ⟨S32x128, h 2⟩, ⟨S32x128, h 3⟩, ⟨S32x128, h 4⟩, ⟨S32x128, h 5⟩,
    ⟨S32x128, h 6⟩, ⟨S32x128, h 7⟩] stack8 _ b.val (by show b.val < 8; exact b.isLt) S32x128 (h b) ?_ rfl (32 * b.val) ?_ (ValueIdx.ix2 r l) ?_ ?_
  · fin_cases b <;> rfl
  · fin_cases b <;> rfl
  · intro a ha
    match a with
    | ⟨0, _⟩ => exact absurd rfl ha
    | ⟨1, _⟩ => rfl
  · have hb := b.isLt
    have hr := r.isLt
    show 32 * b.val + r.val = (32 * b.val + r.val) % 256
    omega

theorem xt_at (X : FVec Ideal S256x128 .bf16) (b : Fin 8) (r : Fin 32) (l : Fin 128) :
    xt X (ValueIdx.ix2 l (Fin.ofNat 256 (32 * b.val + r.val))) = hatS 0x3B124925#32 0xC3E00000#32 0x43E00000#32 (block X b l) r :=
  (stack_at (xh X) b r l).trans (xh_at X b r l)

/-! ## The operands of the product -/

section
variable {nx ny ns : ℕ} [NeZero nx] [NeZero ny]

/-- The left operand: column `i` of the block of `x` that row `k` lies in, quantised. -/
theorem Q9_val (hd : 128 ∣ nx) (Q1 : (Mat 512 nx).Idx → EReal) (i : Fin nx) (k : Fin 512) :
    Q9 (F := Ideal) Q1 (ValueIdx.ix2 i k) = hatS 0x3B124925#32 0xC3E00000#32 0x43E00000#32
      (fun r => Q1 (ValueIdx.ix2 (Fin.ofNat 512 (32 * (k.val / 32) + r.val)) i)) (Fin.ofNat 32 k.val) := by
  have hk := k.isLt
  have hi := i.isLt
  rw [Q9_at (u := k.val / 256) (q := i.val / 128)
    (ValueIdx.ix2 (Fin.ofNat 128 i.val) (Fin.ofNat 256 (32 * (Fin.ofNat 8 (k.val % 256 / 32)).val + (Fin.ofNat 32 k.val).val))) (by
      show i.val = 128 * (i.val / 128) + i.val % 128
      omega) (by
      show k.val = 256 * (k.val / 256) + (32 * (k.val % 256 / 32 % 8) + k.val % 32) % 256
      omega), xt_at]
  congr 1
  funext r
  have hr := r.isLt
  unfold block tile
  congr 1
  funext x
  match x with
  | ⟨0, _⟩ =>
    refine Fin.ext ?_
    show (256 * (k.val / 256) + (32 * (k.val % 256 / 32 % 8) + r.val) % 256) % 512 = (32 * (k.val / 32) + r.val) % 512
    omega
  | ⟨1, _⟩ =>
    refine Fin.ext ?_
    show (128 * (i.val / 128) + i.val % 128) % nx = i.val
    rw [Nat.mod_eq_of_lt (by omega)]; omega

/-- The right operand: column `j` of the block of `dy` that row `k` lies in, quantised; `D` gives the element of `dy` at a row. -/
theorem Q10_val (hd : 128 ∣ ny) (Q2 : (Mat 512 ny).Idx → EReal) (S : ℕ → ℕ → FVec Ideal S256x128 .f32) (D : Fin 512 → EReal) (k : Fin 512) (j : Fin ny)
    (hD : ∀ r : Fin 512, Q2 (ValueIdx.ix2 r j) * S (r.val / 256) (j.val / 128) (ValueIdx.ix2 (Fin.ofNat 256 r.val) (Fin.ofNat 128 j.val)) = D r) :
    Q10 (F := Ideal) Q2 S (ValueIdx.ix2 k j) = hatS 0x37924925#32 0xC7600000#32 0x47600000#32
      (fun r => D (Fin.ofNat 512 (32 * (k.val / 32) + r.val))) (Fin.ofNat 32 k.val) := by
  have hk := k.isLt
  have hj := j.isLt
  rw [Q10_at (u := k.val / 256) (q := j.val / 128) (b := k.val % 256 / 32) (by omega)
    (ValueIdx.ix2 (Fin.ofNat 32 k.val) (Fin.ofNat 128 j.val)) (by
      show k.val = 256 * (k.val / 256) + 32 * (k.val % 256 / 32) + k.val % 32
      omega) (by
      show j.val = 128 * (j.val / 128) + j.val % 128
      omega), yh_at]
  congr 1
  funext r
  have hr := r.isLt
  rw [← hD]
  unfold block yTile
  show shapeCast S256x128 (tile Q2 (k.val / 256) (j.val / 128)) c256 _ * _ = _
  have e1 : (Fin.ofNat 512 (32 * (k.val / 32) + r.val)).val / 256 = k.val / 256 := by
    show (32 * (k.val / 32) + r.val) % 512 / 256 = k.val / 256
    omega
  have e2 : Fin.ofNat 256 (Fin.ofNat 512 (32 * (k.val / 32) + r.val)).val = Fin.ofNat 256 (32 * (k.val % 256 / 32) + r.val) := Fin.ext (by
    show (32 * (k.val / 32) + r.val) % 512 % 256 = (32 * (k.val % 256 / 32) + r.val) % 256
    omega)
  rw [e1, e2, shapeCast_apply _ _ _ _ rfl]
  congr 1
  unfold tile
  congr 1
  funext x
  match x with
  | ⟨0, _⟩ =>
    refine Fin.ext ?_
    show (256 * (k.val / 256) + (32 * (k.val % 256 / 32) + r.val) % 256) % 512 = (32 * (k.val / 32) + r.val) % 512
    omega
  | ⟨1, _⟩ =>
    refine Fin.ext ?_
    show (128 * (j.val / 128) + j.val % 128) % ny = j.val
    rw [Nat.mod_eq_of_lt (by omega)]; omega

end

/-! ## The scales of `dy` -/

/-- The group of a lane, one lane. -/
def laneS (v0 : BitVec 32) : BitVec 32 :=
  let v2 := IntOp.divsi .vector v0 32#32
  let v9 := IntOp.subi (BitVec.setWidth 32 (IntOp.cmpi .sgt v0 0#32)) (BitVec.setWidth 32 (IntOp.cmpi .slt v0 0#32))
  let v14 : BitVec 32 := Scalar.subi (Scalar.extui (Scalar.cmpi .sgt 32#32 0#32)) (Scalar.extui (Scalar.cmpi .slt 32#32 0#32))
  Scalar.select (IntOp.andi (IntOp.cmpi .ne v9 v14) (IntOp.cmpi .ne (IntOp.remsi .vector v0 32#32) 0#32)) (IntOp.subi v2 1#32) v2

theorem laneS_eq : ∀ l : Fin 128, laneS (BitVec.ofNat 32 l.val) = BitVec.ofNat 32 (l.val / 32) := by decide +kernel

end Mx

end
-- ==== Proof.Quant.lean ====
/-
  The reference's quantiser, element by element, and the scales that a one-hot product spreads over their columns.
-/
module

public import proofs.«01_k».proof.Proof.Hat
public import Idealize.ShloMosaic.Lib.MatmulPlain

@[expose] public section

set_option maxRecDepth 16384

noncomputable section

namespace Mx

open Idealize.ShloMosaic

abbrev Cube (a b c : ℕ) : Shape := ⟨3, ![a, b, c]⟩

/-- Element `k` of a column `D`, its block of 32 quantised. -/
def colHat (m lo hi : BitVec 32) (D : ℕ → EReal) (k : ℕ) : EReal := hatS m lo hi (fun r => D (32 * (k / 32) + r.val)) (Fin.ofNat 32 k)

/-- Column `i` of a matrix. -/
abbrev col {T n : ℕ} [NeZero T] (X : (Mat T n).Idx → EReal) (i : Fin n) : ℕ → EReal := fun r => X (ValueIdx.ix2 (Fin.ofNat T r) i)

/-! ## The quantiser -/

section
variable {B n T : ℕ}

/-- The powers of two. -/
def powV (hi : (Cube 252 1 1).Iotas .tc 32 [0]) : FVec Ideal (Cube 252 1 1) .f32 :=
  exp2 (subf (sitofp .f32 (iota .tc (Cube 252 1 1) 32 [0] hi)) (broadcast (Cube 252 1 1) (Scalar.ofBits .f32 0x42FC0000#32)))

/-- How many of them are at most `A`. -/
def cntV (A : FVec Ideal (Mat B n) .f32) (hi : (Cube 252 1 1).Iotas .tc 32 [0]) (h1 : (Mat B n).ShapeCasts (Cube 1 B n))
    (h2 : (Cube 1 B n).Broadcasts (Cube 252 B n)) (h3 : (Cube 252 1 1).Broadcasts (Cube 252 B n)) (h4 : (Cube 252 B n).Reduces [0] (Mat B n)) :
    FVec Ideal (Mat B n) .f32 :=
  multiReduction .add [0] (Mat B n) (select (cmpf .oge (broadcastTo (Cube 252 B n) (shapeCast (Cube 1 B n) A h1) h2) (broadcastTo (Cube 252 B n) (powV hi) h3))
    (broadcast (Cube 252 B n) (Scalar.ofBits .f32 0x3F800000#32)) (broadcast (Cube 252 B n) (Scalar.ofBits .f32 0x00000000#32))) 0x00000000#32 h4 (.inl rfl) rfl

/-- The exponents. -/
def expV (A : FVec Ideal (Mat B n) .f32) (hi : (Cube 252 1 1).Iotas .tc 32 [0]) (h1 : (Mat B n).ShapeCasts (Cube 1 B n))
    (h2 : (Cube 1 B n).Broadcasts (Cube 252 B n)) (h3 : (Cube 252 1 1).Broadcasts (Cube 252 B n)) (h4 : (Cube 252 B n).Reduces [0] (Mat B n)) :
    FVec Ideal (Mat B n) .f32 :=
  select (cmpf .oeq (cntV A hi h1 h2 h3 h4) (broadcast (Mat B n) (Scalar.ofBits .f32 0x00000000#32))) (broadcast (Mat B n) (Scalar.ofBits .f32 0x00000000#32))
    (subf (cntV A hi h1 h2 h3 h4) (broadcast (Mat B n) (Scalar.ofBits .f32 0x42FC0000#32)))

/-- Codes times scales. -/
def refHat (φ : FTy) (hφ : φ.bits < FTy.bits .f32) (hφ' : φ.bits < FTy.bits .bf16) (lo hi : BitVec 32) (V : FVec Ideal (Cube B 32 n) .f32)
    (E : FVec Ideal (Mat B n) .f32) (s1 : (Mat B n).ShapeCasts (Cube B 1 n)) (s2 : (Cube B 1 n).Broadcasts (Cube B 32 n))
    (s3 : (Cube B 32 n).ShapeCasts (Mat T n)) : FVec Ideal (Mat T n) .bf16 :=
  shapeCast (Mat T n) (mulf (extf .bf16 (truncf φ (minimumf (broadcast (Cube B 32 n) (Scalar.ofBits .f32 hi)) (maximumf (broadcast (Cube B 32 n) (Scalar.ofBits .f32 lo))
      (mulf V (broadcastTo (Cube B 32 n) (shapeCast (Cube B 1 n) (exp2 (subf (broadcast (Mat B n) (Scalar.ofBits .f32 0x00000000#32)) E)) s1) s2)))) hφ) hφ')
    (broadcastTo (Cube B 32 n) (shapeCast (Cube B 1 n) (truncf .bf16 (exp2 E) (by decide)) s1) s2)) s3

theorem powV_at (hi : (Cube 252 1 1).Iotas .tc 32 [0]) (k : Fin 252) : powV hi (ValueIdx.ix3 k 0 0) = powS k.val := by
  show Ideal.exp2 (((BitVec.ofNat 32 (0 * 252 + k.val)).toInt : ℝ) - Ideal.ofBits .f32 0x42FC0000#32) = _
  rw [Nat.zero_mul, Nat.zero_add]
  rfl

theorem cntV_at (A : FVec Ideal (Mat B n) .f32) (hi h1 h2 h3 h4) (b : Fin B) (i : Fin n) :
    cntV A hi h1 h2 h3 h4 (ValueIdx.ix2 b i) = cntS (A (ValueIdx.ix2 b i)) := by
  unfold cntV
  refine (Ideal.multiReduction_add_single (φ := .f32) _ _ h4 _ _ _).trans ?_
  refine Finset.sum_congr rfl fun (k : Fin 252) _ => ?_
  have e : h4.lift (ValueIdx.ix2 b i) k = ValueIdx.ix3 k b i := by
    funext a
    match a with
    | ⟨0, _⟩ => rfl
    | ⟨1, _⟩ => rfl
    | ⟨2, _⟩ => rfl
  rw [e]
  show Scalar.select (Ideal.cmp .oge (broadcastTo (Cube 252 B n) (shapeCast (Cube 1 B n) A h1) h2 (ValueIdx.ix3 k b i))
    (broadcastTo (Cube 252 B n) (powV hi) h3 (ValueIdx.ix3 k b i))) (Ideal.ofBits .f32 0x3F800000#32) (Ideal.ofBits .f32 0x00000000#32) = _
  rw [broadcastTo_apply _ h2 (ValueIdx.ix3 k b i) (ValueIdx.ix3 0 b i) (by
      intro a
      match a with
      | ⟨0, _⟩ => rfl
      | ⟨1, _⟩ => show b.val = if B = 1 then 0 else b.val; split <;> omega
      | ⟨2, _⟩ => show i.val = if n = 1 then 0 else i.val; split <;> omega),
    shapeCast_apply _ _ _ (ValueIdx.ix2 b i) (by
      rw [Shape.rowMajor_val_two, Shape.rowMajor_val_three]
      show b.val * n + i.val = (0 * B + b.val) * n + i.val
      rw [Nat.zero_mul, Nat.zero_add]),
    broadcastTo_apply _ h3 (ValueIdx.ix3 k b i) (ValueIdx.ix3 k 0 0) (by
      intro a
      match a with
      | ⟨0, _⟩ => rfl
      | ⟨1, _⟩ => rfl
      | ⟨2, _⟩ => rfl), powV_at]

theorem expV_at (A : FVec Ideal (Mat B n) .f32) (hi h1 h2 h3 h4) (b : Fin B) (i : Fin n) :
    expV A hi h1 h2 h3 h4 (ValueIdx.ix2 b i) = expS (A (ValueIdx.ix2 b i)) := by
  show Scalar.select (Ideal.cmp .oeq (cntV A hi h1 h2 h3 h4 (ValueIdx.ix2 b i)) (Ideal.ofBits .f32 0x00000000#32)) (Ideal.ofBits .f32 0x00000000#32)
    (cntV A hi h1 h2 h3 h4 (ValueIdx.ix2 b i) - Ideal.ofBits .f32 0x42FC0000#32) = _
  rw [cntV_at]
  rfl

theorem spread32 {φ : FTy} (W : FVec Ideal (Mat B n) φ) (s1 : (Mat B n).ShapeCasts (Cube B 1 n)) (s2 : (Cube B 1 n).Broadcasts (Cube B 32 n))
    (b : Fin B) (r : Fin 32) (i : Fin n) :
    broadcastTo (Cube B 32 n) (shapeCast (Cube B 1 n) W s1) s2 (ValueIdx.ix3 b r i) = W (ValueIdx.ix2 b i) := by
  rw [broadcastTo_apply _ s2 (ValueIdx.ix3 b r i) (ValueIdx.ix3 b 0 i) (by
      intro a
      match a with
      | ⟨0, _⟩ => show b.val = if B = 1 then 0 else b.val; split <;> omega
      | ⟨1, _⟩ => rfl
      | ⟨2, _⟩ => show i.val = if n = 1 then 0 else i.val; split <;> omega),
    shapeCast_apply _ _ _ (ValueIdx.ix2 b i) (by
      rw [Shape.rowMajor_val_two, Shape.rowMajor_val_three]
      show b.val * n + i.val = (b.val * 1 + 0) * n + i.val
      rw [Nat.mul_one, Nat.add_zero])]

theorem refHat_at (φ : FTy) (hφ : φ.bits < FTy.bits .f32) (hφ' : φ.bits < FTy.bits .bf16) (lo hi : BitVec 32) (V : FVec Ideal (Cube B 32 n) .f32)
    (E : FVec Ideal (Mat B n) .f32) (s1 : (Mat B n).ShapeCasts (Cube B 1 n)) (s2 : (Cube B 1 n).Broadcasts (Cube B 32 n))
    (s3 : (Cube B 32 n).ShapeCasts (Mat T n)) (k : Fin T) (b : Fin B) (hb : b.val = k.val / 32) (i : Fin n) :
    refHat φ hφ hφ' lo hi V E s1 s2 s3 (ValueIdx.ix2 k i)
      = min (Ideal.ofBits .f32 hi) (max (Ideal.ofBits .f32 lo) (V (ValueIdx.ix3 b (Fin.ofNat 32 k.val) i)
          * Ideal.exp2 (Ideal.ofBits .f32 0x00000000#32 - E (ValueIdx.ix2 b i)))) * Ideal.exp2 (E (ValueIdx.ix2 b i)) := by
  unfold refHat
  rw [shapeCast_apply _ _ (ValueIdx.ix2 k i) (ValueIdx.ix3 b (Fin.ofNat 32 k.val) i) (by
    rw [Shape.rowMajor_val_two, Shape.rowMajor_val_three]
    show (b.val * 32 + k.val % 32) * n + i.val = k.val * n + i.val
    rw [hb, show k.val / 32 * 32 + k.val % 32 = k.val by omega])]
  show min (Ideal.ofBits .f32 hi : EReal) (max (Ideal.ofBits .f32 lo : EReal) ((V (ValueIdx.ix3 b (Fin.ofNat 32 k.val) i) : EReal)
      * (broadcastTo (Cube B 32 n) (shapeCast (Cube B 1 n) (exp2 (F := Ideal) (φ := .f32) (subf (broadcast (Mat B n) (Scalar.ofBits .f32 0x00000000#32)) E)) s1) s2
          (ValueIdx.ix3 b (Fin.ofNat 32 k.val) i) : EReal)))
    * (broadcastTo (Cube B 32 n) (shapeCast (Cube B 1 n) (truncf (F := Ideal) .bf16 (exp2 (F := Ideal) (φ := .f32) E) (by decide)) s1) s2
        (ValueIdx.ix3 b (Fin.ofNat 32 k.val) i) : EReal) = _
  rw [spread32, spread32]
  rfl

/-- The greatest magnitudes. -/
theorem max32_at (V : FVec Ideal (Cube B 32 n) .f32) (h : (Cube B 32 n).Reduces [1] (Mat B n)) (b : Fin B) (i : Fin n) :
    multiReduction .maximumf [1] (Mat B n) (absf V) 0xFF800000#32 h (.inl rfl) rfl (ValueIdx.ix2 b i) = amax fun r => V (ValueIdx.ix3 b r i) := by
  refine eq_of_forall_ge_iff fun z => ?_
  rw [amax_le]
  refine (mr_le (φ := .f32) _ _ _ _ _ bot_f32 _ _).trans ?_
  refine forall_congr' fun (r : Fin 32) => ?_
  have e : h.lift (ValueIdx.ix2 b i) r = ValueIdx.ix3 b r i := by
    funext a
    match a with
    | ⟨0, _⟩ => rfl
    | ⟨1, _⟩ => rfl
    | ⟨2, _⟩ => rfl
  rw [e]
  exact Iff.rfl

/-- The reference's quantiser at an element. -/
theorem quant_at [NeZero T] (hT : T = 32 * B) (φ : FTy) (hφ : φ.bits < FTy.bits .f32) (hφ' : φ.bits < FTy.bits .bf16) (m lo hi : BitVec 32)
    (X : FVec Ideal (Mat T n) .f32) (V : FVec Ideal (Cube B 32 n) .f32) (c : (Mat T n).ShapeCasts (Cube B 32 n)) (hV : V = shapeCast (Cube B 32 n) X c)
    (hi' h1 h2 h3 h4) (h : (Cube B 32 n).Reduces [1] (Mat B n)) (s1 : (Mat B n).ShapeCasts (Cube B 1 n)) (s2 : (Cube B 1 n).Broadcasts (Cube B 32 n))
    (s3 : (Cube B 32 n).ShapeCasts (Mat T n)) (k : Fin T) (i : Fin n) :
    refHat φ hφ hφ' lo hi V (expV (mulf (multiReduction .maximumf [1] (Mat B n) (absf V) 0xFF800000#32 h (.inl rfl) rfl)
        (broadcast (Mat B n) (Scalar.ofBits .f32 m))) hi' h1 h2 h3 h4) s1 s2 s3 (ValueIdx.ix2 k i)
      = colHat m lo hi (col X i) k.val := by
  have hk := k.isLt
  have hv : ∀ (b : Fin B) (r : Fin 32), V (ValueIdx.ix3 b r i) = col X i (32 * b.val + r.val) := by
    intro b r
    have hb := b.isLt
    have hr := r.isLt
    rw [hV, shapeCast_apply _ _ _ (ValueIdx.ix2 (Fin.ofNat T (32 * b.val + r.val)) i) (by
      rw [Shape.rowMajor_val_two, Shape.rowMajor_val_three]
      show (32 * b.val + r.val) % T * n + i.val = (b.val * 32 + r.val) * n + i.val
      rw [Nat.mod_eq_of_lt (by omega), Nat.mul_comm 32])]
  rw [refHat_at φ hφ hφ' lo hi V _ s1 s2 s3 k ⟨k.val / 32, by omega⟩ rfl i, expV_at]
  have ha : (mulf (multiReduction .maximumf [1] (Mat B n) (absf V) 0xFF800000#32 h (.inl rfl) rfl)
      (broadcast (Mat B n) (Scalar.ofBits .f32 m)) : FVec Ideal (Mat B n) .f32) (ValueIdx.ix2 ⟨k.val / 32, by omega⟩ i)
      = amax (fun r => col X i (32 * (k.val / 32) + r.val)) * Ideal.ofBits .f32 m := by
    refine congrArg (· * Ideal.ofBits .f32 m) ((max32_at V h _ i).trans ?_)
    exact congrArg amax (funext fun r => hv _ r)
  rw [ha, hv]
  rfl

end

/-! ## The scales of `dy` -/

theorem laneS_all : (List.range 5248).all (fun l => laneS (BitVec.ofNat 32 l) == BitVec.ofNat 32 (l / 32)) = true := by decide +kernel

theorem laneS_at (l : ℕ) (h : l < 5248) : laneS (BitVec.ofNat 32 l) = BitVec.ofNat 32 (l / 32) :=
  eq_of_beq (List.all_eq_true.1 laneS_all l (List.mem_range.2 h))

section
variable {g n T : ℕ}

/-- The group of 32 columns of each column. -/
def groupV (h1 : (Mat g n).Iotas .tc 32 [1]) : IVec (Mat g n) 32 :=
  let v0 : IVec (Mat g n) 32 := iota .tc (Mat g n) 32 [1] h1
  let v1 : IVec (Mat g n) 32 := broadcast (Mat g n) 32#32
  let z : IVec (Mat g n) 32 := broadcast (Mat g n) 0#32
  let v2 := divsi v0 v1
  let v9 := subi (extui 32 (cmpi .sgt v0 z) (by decide)) (extui 32 (cmpi .slt v0 z) (by decide))
  let v14 : BitVec 32 := Scalar.subi (Scalar.extui (Scalar.cmpi .sgt 32#32 0#32)) (Scalar.extui (Scalar.cmpi .slt 32#32 0#32))
  select (andi (cmpi .ne v9 (broadcast (Mat g n) v14)) (cmpi .ne (remsi v0 v1) z)) (subi v2 (broadcast (Mat g n) 1#32)) v2

/-- One where the column is in the row's group. -/
def oneHot (h1 : (Mat g n).Iotas .tc 32 [1]) (h0 : (Mat g n).Iotas .tc 32 [0]) : FVec Ideal (Mat g n) .bf16 :=
  truncf .bf16 (sitofp .f32 (extui 32 (cmpi .eq (groupV h1) (iota .tc (Mat g n) 32 [0] h0)) (by decide))) (by decide)

theorem groupV_at (h1 : (Mat g n).Iotas .tc 32 [1]) (a : Fin g) (j : Fin n) (hn : n ≤ 5248) : groupV h1 (ValueIdx.ix2 a j) = BitVec.ofNat 32 (j.val / 32) := by
  have e : iota .tc (Mat g n) 32 [1] h1 (ValueIdx.ix2 a j) = BitVec.ofNat 32 j.val := by
    rw [iota_apply]
    show BitVec.ofNat 32 (0 * n + j.val) = _
    rw [Nat.zero_mul, Nat.zero_add]
  show laneS (iota .tc (Mat g n) 32 [1] h1 (ValueIdx.ix2 a j)) = _
  rw [e, laneS_at _ (by omega)]

theorem oneHot_at (h1 : (Mat g n).Iotas .tc 32 [1]) (h0 : (Mat g n).Iotas .tc 32 [0]) (a : Fin g) (j : Fin n) (hn : n ≤ 5248) (hg : g ≤ 5248) :
    oneHot h1 h0 (ValueIdx.ix2 a j) = if a.val = j.val / 32 then 1 else 0 := by
  have e : iota .tc (Mat g n) 32 [0] h0 (ValueIdx.ix2 a j) = BitVec.ofNat 32 a.val := by
    rw [iota_apply]
    show BitVec.ofNat 32 (0 * g + a.val) = _
    rw [Nat.zero_mul, Nat.zero_add]
  show ((((BitVec.ofBool (groupV h1 (ValueIdx.ix2 a j) == iota .tc (Mat g n) 32 [0] h0 (ValueIdx.ix2 a j))).setWidth 32).toInt : ℝ) : EReal) = _
  rw [e, groupV_at h1 a j hn]
  have ha := a.isLt
  have hj := j.isLt
  by_cases hh : a.val = j.val / 32
  · have e1 : ((BitVec.ofBool true).setWidth 32).toInt = 1 := by decide
    rw [if_pos hh, hh, beq_self_eq_true, e1]
    norm_num
  · rw [if_neg hh, beq_eq_false_iff_ne.2 (fun h => hh (by
      have := congrArg BitVec.toNat h
      rw [BitVec.toNat_ofNat, BitVec.toNat_ofNat] at this
      omega))]
    norm_num

/-- The product with it picks the scale of a column's group. -/
theorem pick_at (S : FVec Ideal (Mat T g) .bf16) (h1 : (Mat g n).Iotas .tc 32 [1]) (h0 : (Mat g n).Iotas .tc 32 [0]) (r : Fin T) (j : Fin n)
    (hn : n ≤ 5248) (hg : g ≤ 5248) (hj : j.val / 32 < g) :
    FloatOps.matmul (F := Ideal) (DotDims.plain T g n) none S (oneHot h1 h0) (constant (Mat T n) .f32 0x00000000#32) (ValueIdx.ix2 r j)
      = S (ValueIdx.ix2 r ⟨j.val / 32, hj⟩) := by
  rw [Ideal.matmul_plain_apply]
  have e0 : (constant (F := Ideal) (Mat T n) .f32 0x00000000#32 (ValueIdx.ix2 r j) : EReal) = 0 := Ideal.ofBits_zero_f32
  refine (congrArg (· + _) e0).trans ((zero_add _).trans ?_)
  rw [Finset.sum_eq_single ⟨j.val / 32, hj⟩ (fun a _ ha => by
    rw [oneHot_at h1 h0 a j hn hg, if_neg (fun h => ha (Fin.ext h))]
    exact mul_zero _) (fun h => absurd (Finset.mem_univ _) h), oneHot_at h1 h0 _ j hn hg, if_pos rfl]
  exact mul_one _

end

/-! ## The weight gradient -/

/-- An element of the weight gradient over `K` rows, from the column of `x` and the column of `dy`. -/
def dwS (X D : ℕ → EReal) (K : ℕ) : EReal :=
  ∑ k ∈ Finset.range K, colHat 0x3B124925#32 0xC3E00000#32 0x43E00000#32 X k * colHat 0x37924925#32 0xC7600000#32 0x47600000#32 D k

/-- A block of rows that starts at a multiple of 32 is quantised as the whole is. -/
theorem colHat_shift (m lo hi : BitVec 32) (D : ℕ → EReal) (o k : ℕ) (ho : 32 ∣ o) : colHat m lo hi (fun r => D (o + r)) k = colHat m lo hi D (o + k) := by
  obtain ⟨q, rfl⟩ := ho
  unfold colHat
  have e1 : (Fin.ofNat 32 k) = Fin.ofNat 32 (32 * q + k) := Fin.ext (by show k % 32 = (32 * q + k) % 32; omega)
  rw [e1]
  congr 1
  funext r
  show D (32 * q + (32 * (k / 32) + r.val)) = D (32 * ((32 * q + k) / 32) + r.val)
  congr 1
  omega

theorem colHat_congr {m lo hi : BitVec 32} {D D' : ℕ → EReal} {K : ℕ} (hK : 32 ∣ K) (h : ∀ r < K, D r = D' r) {k : ℕ} (hk : k < K) :
    colHat m lo hi D k = colHat m lo hi D' k := by
  unfold colHat
  congr 1
  funext r
  have hr := r.isLt
  exact h _ (by omega)

theorem dwS_congr {X X' D D' : ℕ → EReal} {K : ℕ} (hK : 32 ∣ K) (hX : ∀ r < K, X r = X' r) (hD : ∀ r < K, D r = D' r) : dwS X D K = dwS X' D' K :=
  Finset.sum_congr rfl fun k hk => by
    rw [colHat_congr hK hX (Finset.mem_range.1 hk), colHat_congr hK hD (Finset.mem_range.1 hk)]

theorem dwS_zero (X D : ℕ → EReal) : dwS X D 0 = 0 := Finset.sum_range_zero _

/-- 512 more rows. -/
theorem dwS_add (X D X' D' : ℕ → EReal) (o : ℕ) (ho : 32 ∣ o) (hX : ∀ r < 512, X' r = X (o + r)) (hD : ∀ r < 512, D' r = D (o + r)) :
    dwS X D o + dwS X' D' 512 = dwS X D (o + 512) := by
  rw [dwS_congr (by decide) hX hD]
  unfold dwS
  rw [Finset.sum_range_add]
  refine congrArg _ (Finset.sum_congr rfl fun k _ => ?_)
  rw [colHat_shift _ _ _ X o k ho, colHat_shift _ _ _ D o k ho]

/-- A column of `dy`: codes times the scales of its group. -/
abbrev dcol {T n g : ℕ} [NeZero T] [NeZero g] (C : (Mat T n).Idx → EReal) (S : (Mat T g).Idx → EReal) (j : Fin n) : ℕ → EReal :=
  fun r => C (ValueIdx.ix2 (Fin.ofNat T r) j) * S (ValueIdx.ix2 (Fin.ofNat T r) (Fin.ofNat g (j.val / 32)))

/-! ## The scales spread over the lanes -/

theorem laneOf_at (o : ℕ) (r : Fin 256) (l : Fin 128) : laneOf o (ValueIdx.ix2 r l) = BitVec.ofNat 32 (l.val / 32 + o) := by
  have e : iota .tc S256x128 32 [1] (by decide) (ValueIdx.ix2 r l) = BitVec.ofNat 32 l.val := by
    rw [iota_apply]
    show BitVec.ofNat 32 (0 * 128 + l.val) = _
    rw [Nat.zero_mul, Nat.zero_add]
  show laneS (iota .tc S256x128 32 [1] (by decide) (ValueIdx.ix2 r l)) + BitVec.ofNat 32 o = _
  rw [e, laneS_at _ (by omega), BitVec.ofNat_add]

theorem slt_zero : ∀ v : Fin 128, IntOp.cmpi .slt (BitVec.ofNat 32 v.val) 0#32 = 0#1 := by decide +kernel

theorem spread_at (S : FVec Ideal S256x128 .f32) (o : ℕ) (r : Fin 256) (l : Fin 128) (h : l.val / 32 + o < 128) :
    spread S (laneOf o) (ValueIdx.ix2 r l) = S (ValueIdx.ix2 r ⟨l.val / 32 + o, h⟩) := by
  unfold spread
  rw [dynamicGather_apply, shapeCast_apply _ _ (ValueIdx.ix2 r l) (ValueIdx.ix3 r l 0) (by
      rw [Shape.rowMajor_val_two, Shape.rowMajor_val_three]
      show (r.val * 128 + l.val) * 1 + 0 = r.val * 128 + l.val
      omega),
    shapeCast_apply _ _ _ (ValueIdx.ix2 r l) (by
      rw [Shape.rowMajor_val_two, Shape.rowMajor_val_three]
      show r.val * 128 + l.val = (r.val * 128 + l.val) * 1 + 0
      omega)]
  have e : (select (cmpi .slt (laneOf o) (broadcast S256x128 0#32)) (addi (laneOf o) (broadcast S256x128 128#32)) (laneOf o) : IVec S256x128 32)
      (ValueIdx.ix2 r l) = BitVec.ofNat 32 (l.val / 32 + o) := by
    show Scalar.select (IntOp.cmpi .slt (laneOf o (ValueIdx.ix2 r l)) 0#32) _ (laneOf o (ValueIdx.ix2 r l)) = _
    rw [laneOf_at, slt_zero ⟨_, h⟩]
    rfl
  rw [e]
  show S _ = S _
  congr 1
  funext b
  match b with
  | ⟨0, _⟩ => rfl
  | ⟨1, _⟩ =>
    refine Fin.ext ?_
    show (BitVec.ofNat 32 (l.val / 32 + o)).toNat % 128 = l.val / 32 + o
    rw [BitVec.toNat_ofNat]
    omega

theorem scFull_at (X : FVec Ideal S256x128 .f32) (o : ℕ) (r : Fin 256) (l : Fin 128) (h : l.val / 32 + o < 128) :
    scFull o X (ValueIdx.ix2 r l) = X (ValueIdx.ix2 r ⟨l.val / 32 + o, h⟩) := by
  unfold scFull
  rw [spread_at _ o r l h, shapeCast_self]

theorem scPad_at (o w : ℕ) (hc : (Mat 256 w).ShapeCasts (Mat 256 w)) (hk : Shape.Concatenates [Mat 256 w, Mat 256 (128 - w)] S256x128 1)
    (X : FVec Ideal (Mat 256 w) .f32) (r : Fin 256) (l : Fin 128) (h : l.val / 32 + o < 128) (hw : l.val / 32 + o < w) :
    scPad o w hc hk X (ValueIdx.ix2 r l) = X (ValueIdx.ix2 r ⟨l.val / 32 + o, hw⟩) := by
  unfold scPad
  rw [spread_at _ o r l h, shapeCast_self]
  refine concatenate_apply_piece 1 [⟨Mat 256 w, X⟩, ⟨Mat 256 (128 - w), lit (Mat 256 (128 - w)) 0x00000000#32⟩] hk _ 0 (by show 0 < 2; decide) (Mat 256 w) X rfl rfl 0 rfl
    (ValueIdx.ix2 r ⟨l.val / 32 + o, hw⟩) ?_ ?_
  · intro a ha
    match a with
    | ⟨0, _⟩ => rfl
    | ⟨1, _⟩ => exact absurd rfl ha
  · show 0 + (l.val / 32 + o) = l.val / 32 + o
    omega

end Mx

end
-- ==== Proof.Body.lean ====
/-
  The body of one grid step of the printed program, tile by tile.
-/
module

public import proofs.«01_k».proof.Proof.Steps
public import proofs.«01_k».proof.KernelIdeal
public import proofs.«01_k».proof.Proof.Gen.KernelIdeal

@[expose] public section

noncomputable section

namespace Cert.KernelIdeal.Gen

open Idealize.ShloMosaic Idealize.ShloMosaic.TcCoe Idealize.ShloMosaic.ValueIdx
open Idealize.SL
open Idealize.SL.RA Idealize.SL.Sem Idealize.SL.ProofMode
open Idealize.SL.BI (sProp bigSep)
open scoped Idealize.SL.BI
open Idealize.SL.BI.BIBase Idealize.SL.BI.Laws
open Mx (Bufs Mat St)

variable {F : FTy → Type} [FloatOps F]
local notation "𝕄" => MT nD τ sig Unit (Elt F) ℕ (UR sig nD τ) ℕ

attribute [local irreducible] maximumf minimumf mulf addf select cmpf cmpi addi subi shli bitcastToFloat extf truncf broadcast broadcastTo shapeCast extractStridedSlice concatenate transpose multiReduction absf dynamicGather constant iota divsi remsi extui andi

/-- The condition under which the weight gradient is zeroed. -/
abbrev atZero (i : grid0.Coords) : Prop := (Scalar.cmpi .ne (Scalar.extui (Scalar.cmpi .eq (BitVec.ofNat 32 (i 0).val) 0#32) : BitVec 32) 0#32 = 1#1)

set_option maxRecDepth 16384 in
set_option maxHeartbeats 100000000 in
theorem body_run (c : Dev nD) (i : grid0.Coords) (B : Bufs sig 1536 5248 164) (w1 w2 w3 w4 w6 w8 w11 w12) {A : Prop}
    (Q1 : (Mat 512 1536).Idx → F .bf16) (Q2 : (Mat 512 5248).Idx → F .fp8e5m2)
    (Q3 : (Mat 512 164).Idx → F .f32) (S : ℕ → ℕ → FVec F Mx.S256x128 .f32) (D0 D G : (Mat 1536 5248).Idx → F .f32)
    (E : Set ℕ) (Po : PUnit → sProp 𝕄) (R : sProp 𝕄)
    (hD : D = if atZero i then broadcast (Mat 1536 5248) (Scalar.ofBits .f32 0x00000000#32) else D0)
    (hS : ∀ (u c : ℕ) (hu : 256 * u + 256 ≤ 512) (hp : 4 * c / 128 * 128 + 128 ≤ 164),
      Mx.scFull (4 * c % 128) (fun y => Q3 ((Mx.box (256 * u) (4 * c / 128 * 128) 256 128 hu hp).toLoadRect.idx y)) = S u c)
    (hS' : ∀ (u c : ℕ) (hu : 256 * u + 256 ≤ 512) (hp : 4 * c / 128 * 128 + 36 ≤ 164), 4 * c / 128 * 128 + 128 > 164 →
      Mx.scPad (4 * c % 128) 36 (by decide) (by decide) (fun y => Q3 ((Mx.box (256 * u) (4 * c / 128 * 128) 256 36 hu hp).toLoadRect.idx y)) = S u c)
    (hG512 : A → ∀ (o : ℕ) (hp : o + 512 ≤ 5248) (y : (Mat 1536 512).Idx),
      addf (shapeCast (s := Mat 1536 512) (Mat 1536 512) (fun y => D ((Mx.box (a := 1536) (b := 5248) 0 o 1536 512 (by omega) hp).toLoadRect.idx y)) (by decide))
        (matmul dot_S1536x512_S512x512_S1536x512_1_0_0_1_n_n none (fun y => Mx.Q9 Q1 ((Mx.box (a := 1536) (b := 512) 0 0 1536 512 (by omega) (by omega)).toLoadRect.idx y))
          (fun y => Mx.Q10 Q2 S ((Mx.box (a := 512) (b := 5248) 0 o 512 512 (by omega) hp).toLoadRect.idx y)) (constant (Mat 1536 512) .f32 0x00000000#32)) y
        = G ((Mx.box (a := 1536) (b := 5248) 0 o 1536 512 (by omega) hp).emb y))
    (hG128 : A → ∀ (o : ℕ) (hp : o + 128 ≤ 5248) (y : (Mat 1536 128).Idx),
      addf (shapeCast (s := Mat 1536 128) (Mat 1536 128) (fun y => D ((Mx.box (a := 1536) (b := 5248) 0 o 1536 128 (by omega) hp).toLoadRect.idx y)) (by decide))
        (matmul dot_S1536x512_S512x128_S1536x128_1_0_0_1_n_n none (fun y => Mx.Q9 Q1 ((Mx.box (a := 1536) (b := 512) 0 0 1536 512 (by omega) (by omega)).toLoadRect.idx y))
          (fun y => Mx.Q10 Q2 S ((Mx.box (a := 512) (b := 5248) 0 o 512 128 (by omega) hp).toLoadRect.idx y)) (constant (Mat 1536 128) .f32 0x00000000#32)) y
        = G ((Mx.box (a := 1536) (b := 5248) 0 o 1536 128 (by omega) hp).emb y))
    (hPo : (iprop(St B c A Q1 Q2 Q3 S 24 82 (Mx.upTo D G 5248) ∗ R) : sProp 𝕄) ⊢ Po ⟨⟩) :
   (iprop(St B c A Q1 Q2 Q3 S 0 0 D0 ∗ R) : sProp 𝕄) ⊢ wp frame (wpE (defs₀ (F := F)) Variants.none (c : Thread nD τ) none) E
     (cc0_mx_dw i B.a1 w1 B.a2 w2 B.a3 w3 B.a4 w4 B.a5 B.w5 B.a6 w6 B.a7 B.w7 B.a8 w8 B.a9 B.w9 B.a10 B.w10 B.a11 w11 B.a12 w12) Po := by
  unfold cc0_mx_dw k0_part1053 k0_part1036 k0_part1
  dsimp only
  refine Mx.stepZ (q := ?q) (cnd := atZero i) B Variants.none c none E (by decide) (by decide) (fun hc => ?neg) (fun hc => ?pos) hD ?rest
  case neg =>
    rw [dif_neg hc]
    first | done | exact rfl
  case pos =>
    rw [dif_pos hc]
    first | done | exact rfl
  rw [show D = Mx.upTo D G 0 from Mx.upTo_zero.symm]
  apply Mx.stepX (n := 0) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 1) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 2) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 3) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 4) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 5) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 6) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 7) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 8) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 9) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 10) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 11) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 12) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 13) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 14) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 15) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 16) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 17) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 18) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 19) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 20) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 21) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 22) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepX (n := 23) B Variants.none c none E (by decide)
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 0) B Variants.none c none E (by decide) (by decide) (by decide) (Mx.scFull 0) (hS 0 0 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 1) B Variants.none c none E (by decide) (by decide) (by decide) (Mx.scFull 0) (hS 1 0 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 2) B Variants.none c none E (by decide) (by decide) (by decide) (Mx.scFull 4) (hS 0 1 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 3) B Variants.none c none E (by decide) (by decide) (by decide) (Mx.scFull 4) (hS 1 1 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 4) B Variants.none c none E (by decide) (by decide) (by decide) (Mx.scFull 8) (hS 0 2 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 5) B Variants.none c none E (by decide) (by decide) (by decide) (Mx.scFull 8) (hS 1 2 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 6) B Variants.none c none E (by decide) (by decide) (by decide) (Mx.scFull 12) (hS 0 3 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 7) B Variants.none c none E (by decide) (by decide) (by decide) (Mx.scFull 12) (hS 1 3 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 0 512 (by decide) (by decide) (by decide) dot_S1536x512_S512x512_S1536x512_1_0_0_1_n_n (by decide) rfl (by decide) (by decide) (fun hA => hG512 hA 0 (by decide)) ?_
  intros
  apply Mx.stepY (k := 8) B Variants.none c none E (by decide) (by decide) (by decide) (Mx.scFull 16) (hS 0 4 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 9) B Variants.none c none E (by decide) (by decide) (by decide) (Mx.scFull 16) (hS 1 4 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 10) B Variants.none c none E (by decide) (by decide) (by decide) (Mx.scFull 20) (hS 0 5 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 11) B Variants.none c none E (by decide) (by decide) (by decide) (Mx.scFull 20) (hS 1 5 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 12) B Variants.none c none E (by decide) (by decide) (by decide) (Mx.scFull 24) (hS 0 6 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 13) B Variants.none c none E (by decide) (by decide) (by decide) (Mx.scFull 24) (hS 1 6 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 14) B Variants.none c none E (by decide) (by decide) (by decide) (Mx.scFull 28) (hS 0 7 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 15) B Variants.none c none E (by decide) (by decide) (by decide) (Mx.scFull 28) (hS 1 7 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 512 512 (by decide) (by decide) (by decide) dot_S1536x512_S512x512_S1536x512_1_0_0_1_n_n (by decide) rfl (by decide) (by decide) (fun hA => hG512 hA 512 (by decide)) ?_
  intros
  apply Mx.stepY (k := 16) B Variants.none c none E (by decide) (by decide) (by decide) (Mx.scFull 32) (hS 0 8 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 17) B Variants.none c none E (by decide) (by decide) (by decide) (Mx.scFull 32) (hS 1 8 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 18) B Variants.none c none E (by decide) (by decide) (by decide) (Mx.scFull 36) (hS 0 9 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 19) B Variants.none c none E (by decide) (by decide) (by decide) (Mx.scFull 36) (hS 1 9 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 20) B Variants.none c none E (by decide) (by decide) (by decide) (Mx.scFull 40) (hS 0 10 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 21) B Variants.none c none E (by decide) (by decide) (by decide) (Mx.scFull 40) (hS 1 10 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 22) B Variants.none c none E (by decide) (by decide) (by decide) (Mx.scFull 44) (hS 0 11 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 23) B Variants.none c none E (by decide) (by decide) (by decide) (Mx.scFull 44) (hS 1 11 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 1024 512 (by decide) (by decide) (by decide) dot_S1536x512_S512x512_S1536x512_1_0_0_1_n_n (by decide) rfl (by decide) (by decide) (fun hA => hG512 hA 1024 (by decide)) ?_
  intros
  apply Mx.stepY (k := 24) B Variants.none c none E (by decide) (by decide) (by decide) (Mx.scFull 48) (hS 0 12 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 25) B Variants.none c none E (by decide) (by decide) (by decide) (Mx.scFull 48) (hS 1 12 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 26) B Variants.none c none E (by decide) (by decide) (by decide) (Mx.scFull 52) (hS 0 13 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 27) B Variants.none c none E (by decide) (by decide) (by decide) (Mx.scFull 52) (hS 1 13 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 28) B Variants.none c none E (by decide) (by decide) (by decide) (Mx.scFull 56) (hS 0 14 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 29) B Variants.none c none E (by decide) (by decide) (by decide) (Mx.scFull 56) (hS 1 14 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 30) B Variants.none c none E (by decide) (by decide) (by decide) (Mx.scFull 60) (hS 0 15 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 31) B Variants.none c none E (by decide) (by decide) (by decide) (Mx.scFull 60) (hS 1 15 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 1536 512 (by decide) (by decide) (by decide) dot_S1536x512_S512x512_S1536x512_1_0_0_1_n_n (by decide) rfl (by decide) (by decide) (fun hA => hG512 hA 1536 (by decide)) ?_
  intros
  apply Mx.stepY (k := 32) B Variants.none c none E (by decide) (by decide) (by decide) (Mx.scFull 64) (hS 0 16 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 33) B Variants.none c none E (by decide) (by decide) (by decide) (Mx.scFull 64) (hS 1 16 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 34) B Variants.none c none E (by decide) (by decide) (by decide) (Mx.scFull 68) (hS 0 17 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 35) B Variants.none c none E (by decide) (by decide) (by decide) (Mx.scFull 68) (hS 1 17 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 36) B Variants.none c none E (by decide) (by decide) (by decide) (Mx.scFull 72) (hS 0 18 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 37) B Variants.none c none E (by decide) (by decide) (by decide) (Mx.scFull 72) (hS 1 18 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 38) B Variants.none c none E (by decide) (by decide) (by decide) (Mx.scFull 76) (hS 0 19 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 39) B Variants.none c none E (by decide) (by decide) (by decide) (Mx.scFull 76) (hS 1 19 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 2048 512 (by decide) (by decide) (by decide) dot_S1536x512_S512x512_S1536x512_1_0_0_1_n_n (by decide) rfl (by decide) (by decide) (fun hA => hG512 hA 2048 (by decide)) ?_
  intros
  apply Mx.stepY (k := 40) B Variants.none c none E (by decide) (by decide) (by decide) (Mx.scFull 80) (hS 0 20 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 41) B Variants.none c none E (by decide) (by decide) (by decide) (Mx.scFull 80) (hS 1 20 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 42) B Variants.none c none E (by decide) (by decide) (by decide) (Mx.scFull 84) (hS 0 21 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 43) B Variants.none c none E (by decide) (by decide) (by decide) (Mx.scFull 84) (hS 1 21 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 44) B Variants.none c none E (by decide) (by decide) (by decide) (Mx.scFull 88) (hS 0 22 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 45) B Variants.none c none E (by decide) (by decide) (by decide) (Mx.scFull 88) (hS 1 22 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 46) B Variants.none c none E (by decide) (by decide) (by decide) (Mx.scFull 92) (hS 0 23 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 47) B Variants.none c none E (by decide) (by decide) (by decide) (Mx.scFull 92) (hS 1 23 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 2560 512 (by decide) (by decide) (by decide) dot_S1536x512_S512x512_S1536x512_1_0_0_1_n_n (by decide) rfl (by decide) (by decide) (fun hA => hG512 hA 2560 (by decide)) ?_
  intros
  apply Mx.stepY (k := 48) B Variants.none c none E (by decide) (by decide) (by decide) (Mx.scFull 96) (hS 0 24 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 49) B Variants.none c none E (by decide) (by decide) (by decide) (Mx.scFull 96) (hS 1 24 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 50) B Variants.none c none E (by decide) (by decide) (by decide) (Mx.scFull 100) (hS 0 25 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 51) B Variants.none c none E (by decide) (by decide) (by decide) (Mx.scFull 100) (hS 1 25 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 52) B Variants.none c none E (by decide) (by decide) (by decide) (Mx.scFull 104) (hS 0 26 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 53) B Variants.none c none E (by decide) (by decide) (by decide) (Mx.scFull 104) (hS 1 26 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 54) B Variants.none c none E (by decide) (by decide) (by decide) (Mx.scFull 108) (hS 0 27 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 55) B Variants.none c none E (by decide) (by decide) (by decide) (Mx.scFull 108) (hS 1 27 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 3072 512 (by decide) (by decide) (by decide) dot_S1536x512_S512x512_S1536x512_1_0_0_1_n_n (by decide) rfl (by decide) (by decide) (fun hA => hG512 hA 3072 (by decide)) ?_
  intros
  apply Mx.stepY (k := 56) B Variants.none c none E (by decide) (by decide) (by decide) (Mx.scFull 112) (hS 0 28 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 57) B Variants.none c none E (by decide) (by decide) (by decide) (Mx.scFull 112) (hS 1 28 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 58) B Variants.none c none E (by decide) (by decide) (by decide) (Mx.scFull 116) (hS 0 29 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 59) B Variants.none c none E (by decide) (by decide) (by decide) (Mx.scFull 116) (hS 1 29 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 60) B Variants.none c none E (by decide) (by decide) (by decide) (Mx.scFull 120) (hS 0 30 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 61) B Variants.none c none E (by decide) (by decide) (by decide) (Mx.scFull 120) (hS 1 30 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 62) B Variants.none c none E (by decide) (by decide) (by decide) (Mx.scFull 124) (hS 0 31 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 63) B Variants.none c none E (by decide) (by decide) (by decide) (Mx.scFull 124) (hS 1 31 (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 3584 512 (by decide) (by decide) (by decide) dot_S1536x512_S512x512_S1536x512_1_0_0_1_n_n (by decide) rfl (by decide) (by decide) (fun hA => hG512 hA 3584 (by decide)) ?_
  intros
  apply Mx.stepY (k := 64) B Variants.none c none E (by decide) (by decide) (by decide) (Mx.scPad 0 36 (by decide) (by decide)) (hS' 0 32 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 65) B Variants.none c none E (by decide) (by decide) (by decide) (Mx.scPad 0 36 (by decide) (by decide)) (hS' 1 32 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 66) B Variants.none c none E (by decide) (by decide) (by decide) (Mx.scPad 4 36 (by decide) (by decide)) (hS' 0 33 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 67) B Variants.none c none E (by decide) (by decide) (by decide) (Mx.scPad 4 36 (by decide) (by decide)) (hS' 1 33 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 68) B Variants.none c none E (by decide) (by decide) (by decide) (Mx.scPad 8 36 (by decide) (by decide)) (hS' 0 34 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 69) B Variants.none c none E (by decide) (by decide) (by decide) (Mx.scPad 8 36 (by decide) (by decide)) (hS' 1 34 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 70) B Variants.none c none E (by decide) (by decide) (by decide) (Mx.scPad 12 36 (by decide) (by decide)) (hS' 0 35 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 71) B Variants.none c none E (by decide) (by decide) (by decide) (Mx.scPad 12 36 (by decide) (by decide)) (hS' 1 35 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 4096 512 (by decide) (by decide) (by decide) dot_S1536x512_S512x512_S1536x512_1_0_0_1_n_n (by decide) rfl (by decide) (by decide) (fun hA => hG512 hA 4096 (by decide)) ?_
  intros
  apply Mx.stepY (k := 72) B Variants.none c none E (by decide) (by decide) (by decide) (Mx.scPad 16 36 (by decide) (by decide)) (hS' 0 36 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 73) B Variants.none c none E (by decide) (by decide) (by decide) (Mx.scPad 16 36 (by decide) (by decide)) (hS' 1 36 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 74) B Variants.none c none E (by decide) (by decide) (by decide) (Mx.scPad 20 36 (by decide) (by decide)) (hS' 0 37 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 75) B Variants.none c none E (by decide) (by decide) (by decide) (Mx.scPad 20 36 (by decide) (by decide)) (hS' 1 37 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 76) B Variants.none c none E (by decide) (by decide) (by decide) (Mx.scPad 24 36 (by decide) (by decide)) (hS' 0 38 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 77) B Variants.none c none E (by decide) (by decide) (by decide) (Mx.scPad 24 36 (by decide) (by decide)) (hS' 1 38 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 78) B Variants.none c none E (by decide) (by decide) (by decide) (Mx.scPad 28 36 (by decide) (by decide)) (hS' 0 39 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 79) B Variants.none c none E (by decide) (by decide) (by decide) (Mx.scPad 28 36 (by decide) (by decide)) (hS' 1 39 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 4608 512 (by decide) (by decide) (by decide) dot_S1536x512_S512x512_S1536x512_1_0_0_1_n_n (by decide) rfl (by decide) (by decide) (fun hA => hG512 hA 4608 (by decide)) ?_
  intros
  apply Mx.stepY (k := 80) B Variants.none c none E (by decide) (by decide) (by decide) (Mx.scPad 32 36 (by decide) (by decide)) (hS' 0 40 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  apply Mx.stepY (k := 81) B Variants.none c none E (by decide) (by decide) (by decide) (Mx.scPad 32 36 (by decide) (by decide)) (hS' 1 40 (by decide) (by decide) (by decide))
  · exact rfl
  · intros; exact rfl
  · intros; exact rfl
  · intros; exact rfl
  · intros; exact rfl
  · intros; exact rfl
  · intros; exact rfl
  · intros; exact rfl
  · intros; exact rfl
  · intros; exact rfl
  · intros; exact rfl
  · intros; exact rfl
  intros
  refine Mx.stepC (D := D) (G := G) B Variants.none c none E 5120 128 (by decide) (by decide) (by decide) dot_S1536x512_S512x128_S1536x128_1_0_0_1_n_n (by decide) rfl (by decide) (by decide) (fun hA => hG128 hA 5120 (by decide)) ?_
  intros
  exact hPo.trans (le_wp_ret _ _ _ _ _)

end Cert.KernelIdeal.Gen

end
-- ==== Proof.RunIdeal.lean ====
/-
  The run of the printed program, from the body of its grid step.
-/
module

public import proofs.«01_k».proof.Proof.Body
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ValueKit
public import Idealize.ShloMosaic.Lib.MatmulPlain
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Mx (Bufs Mat St held anyAt)

local notation "𝕄" => MT nD τ sig Unit (Elt Ideal) ℕ (UR sig nD τ) ℕ

variable (m : (ℓ : Loc nD τ sig) → Buf (Elt Ideal) ℓ) (ρ : Dev nD → PrngReg)

/-! ## @main up to the region -/

/-- Core `c`'s buffers when the kernel starts. -/
abbrev V (c : Dev nD) (b : Ref sig .tc) : Buf (Elt Ideal) ((c : Thread nD τ).loc b) := StableHlo.after hostOps0 (fun b => m (c, b)) b

theorem hostOps0_fresh : (hostOps0 : List (HloOp τ sig (Elt Ideal))).Forall fun op => op.fresh = ∅ := by
  simp only [List.Forall]; repeat' constructor

set_option maxHeartbeats 800000 in
/-- The host operations, then the kernel. -/
theorem hmain (𝒱₀ : Variants) : Pipeline.HMain (Ix := Unit) (Name := ℕ) (U := UR sig nD τ) (Lvl := ℕ) cfgs 0 defs₀ 𝒱₀ m (main (F := Ideal)) (V m) :=
  Pipeline.hmain_prefix cfgs 0 defs₀ 𝒱₀ m main hostOps0 hostOps0_sub hostOps0_fresh main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

/-- Input window 0's staging buffer holds its block at every point. -/
theorem before0_0_of {c : Dev nD} (dat : Dat τ (Elt Ideal) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt Ideal) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of {c : Dev nD} (dat : Dat τ (Elt Ideal) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's branch. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- Each window's staging buffer at point `t`. -/
abbrev ms0_0 (t : Fin cfg0.N) : Memref sig .tc .vmem S512x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x5248 .fp8e5m2 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x164 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x5248 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1536 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x5248 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x5248 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1536x512 .bf16 := Memref.whole cc0_scratch0
abbrev scM0_1 : Memref sig .tc .vmem S512x5248 .bf16 := Memref.whole cc0_scratch1
abbrev scM0_2 : Memref sig .tc .vmem S2x64x128 .f32 := Memref.whole cc0_scratch2
abbrev scM0_3 : Memref sig .tc .vmem S2x2x8x128 .f32 := Memref.whole cc0_scratch3

/-- The invariant is the scratch buffers at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The grid step -/

/-- A buffer owned at known contents. -/
theorem held_of_owns (c : Dev nD) {s : Shape} {e : EltTy} (b : Memref sig .tc .vmem s e) (A : Prop) (X : s.Idx → Elt Ideal e) :
    (owns (c : Thread nD τ) b fullShare X : sProp 𝕄) ⊢ held (c : Thread nD τ) b (fun _ => A) X := by
  unfold owns held
  iintro ⟨%f, %hf, H⟩
  iexists f
  isplitr
  · ipureintro; intro i _; rw [hf]
  · iexact H

/-- A buffer known at every index is owned at those contents. -/
theorem owns_of_held (c : Dev nD) {s : Shape} {e : EltTy} (b : Memref sig .tc .vmem s e) (X : s.Idx → Elt Ideal e) :
    (held (c : Thread nD τ) b (fun _ => True) X : sProp 𝕄) ⊢ owns (c : Thread nD τ) b fullShare X := by
  unfold owns held
  iintro ⟨%f, %hf, H⟩
  iexists f
  isplitr
  · ipureintro; funext i; exact hf i trivial
  · iexact H

/-- A buffer owned at some contents. -/
theorem any_of_owns (c : Dev nD) {s : Shape} {e : EltTy} (b : Memref sig .tc .vmem s e) (X : s.Idx → Elt Ideal e) :
    (owns (c : Thread nD τ) b fullShare X : sProp 𝕄) ⊢ anyAt (c : Thread nD τ) b := by
  unfold owns anyAt
  iintro ⟨%f, -, H⟩
  iexists f
  iexact H

/-- The converse. -/
theorem owns_of_any (c : Dev nD) {s : Shape} {e : EltTy} (b : Memref sig .tc .vmem s e) :
    (anyAt (c : Thread nD τ) b : sProp 𝕄) ⊢ iprop(∃ X, owns (c : Thread nD τ) b fullShare X) := by
  unfold owns anyAt
  iintro ⟨%f, H⟩
  iexists (b.view.read (Elt Ideal) f)
  iexists f
  isplitr
  · ipureintro; rfl
  · iexact H

/-- Nothing is known of a buffer owned at some contents. -/
theorem held_of_owns_none (c : Dev nD) {s : Shape} {e : EltTy} (b : Memref sig .tc .vmem s e) {P : s.Idx → Prop} {Q : s.Idx → Elt Ideal e}
    (hP : ∀ i, ¬ P i) (X : s.Idx → Elt Ideal e) : (owns (c : Thread nD τ) b fullShare X : sProp 𝕄) ⊢ held (c : Thread nD τ) b P Q := by
  unfold owns held
  iintro ⟨%f, -, H⟩
  iexists f
  isplitr
  · ipureintro; exact fun i h => (hP i h).elim
  · iexact H

/-- The buffers of the body at point `t`. -/
abbrev bufs (t : Fin cfg0.N) : Bufs sig 1536 5248 164 :=
  ⟨ms0_0 t, ms0_1 t, ms0_2 t, ms0_3 t, ms0_4 t, ms0_5 t, ms0_6 t, ms0_7 t, scM0_0, scM0_1, scM0_2, scM0_3,
    hs0_4 t, hs0_6 t, Memref.isWhole_whole _, Memref.isWhole_whole _⟩

/-- The scales spread over tile `c` of rows `256 u …`, read off the block of scales. -/
def scales (Q3 : (Mat 512 164).Idx → Ideal .f32) (u c : ℕ) : FVec Ideal Mx.S256x128 .f32 :=
  if h : 256 * u + 256 ≤ 512 ∧ 4 * c / 128 * 128 + 128 ≤ 164 then
    Mx.scFull (4 * c % 128) (fun y => Q3 ((Mx.box (256 * u) (4 * c / 128 * 128) 256 128 h.1 h.2).toLoadRect.idx y))
  else if h : 256 * u + 256 ≤ 512 ∧ 4 * c / 128 * 128 + 36 ≤ 164 then
    Mx.scPad (4 * c % 128) 36 (by decide) (by decide) (fun y => Q3 ((Mx.box (256 * u) (4 * c / 128 * 128) 256 36 h.1 h.2).toLoadRect.idx y))
  else fun _ => Scalar.ofBits .f32 0#32

theorem scales_full (Q3 : (Mat 512 164).Idx → Ideal .f32) (u c : ℕ) (hu : 256 * u + 256 ≤ 512) (hp : 4 * c / 128 * 128 + 128 ≤ 164) :
    Mx.scFull (4 * c % 128) (fun y => Q3 ((Mx.box (256 * u) (4 * c / 128 * 128) 256 128 hu hp).toLoadRect.idx y)) = scales Q3 u c := by
  unfold scales
  rw [dif_pos ⟨hu, hp⟩]

theorem scales_pad (Q3 : (Mat 512 164).Idx → Ideal .f32) (u c : ℕ) (hu : 256 * u + 256 ≤ 512) (hp : 4 * c / 128 * 128 + 36 ≤ 164)
    (h : 4 * c / 128 * 128 + 128 > 164) :
    Mx.scPad (4 * c % 128) 36 (by decide) (by decide) (fun y => Q3 ((Mx.box (256 * u) (4 * c / 128 * 128) 256 36 hu hp).toLoadRect.idx y)) = scales Q3 u c := by
  unfold scales
  rw [dif_neg (fun h' => absurd h'.2 (by omega)), dif_pos ⟨hu, hp⟩]

/-- What one grid step adds to the weight gradient. -/
def dwTerm (Q1 : (Mat 512 1536).Idx → EReal) (Q2 : (Mat 512 5248).Idx → EReal) (Q3 : (Mat 512 164).Idx → EReal) (i : (Mat 1536 5248).Idx) : EReal :=
  ∑ k : Fin 512, Mx.Q9 (F := Ideal) Q1 (ValueIdx.ix2 (i 0) k) * Mx.Q10 (F := Ideal) Q2 (scales Q3) (ValueIdx.ix2 k (i 1))

/-- The weight gradient after the points up to `n`. -/
def acc (c : Dev nD) : (n : ℕ) → n < cfg0.N → (Mat 1536 5248).Idx → EReal
  | 0, h => fun i => (broadcast (Mat 1536 5248) (Scalar.ofBits (F := Ideal) .f32 0x00000000#32) : (Mat 1536 5248).Idx → EReal) i + dwTerm (iblk m c 0 ⟨0, h⟩) (iblk m c 1 ⟨0, h⟩) (iblk m c 2 ⟨0, h⟩) i
  | n + 1, h => fun i => acc c n (Nat.lt_of_succ_lt h) i + dwTerm (iblk m c 0 ⟨n + 1, h⟩) (iblk m c 1 ⟨n + 1, h⟩) (iblk m c 2 ⟨n + 1, h⟩) i

/-- The weight gradient as point `t` starts to add to it. -/
def start (c : Dev nD) (t : Fin cfg0.N) : (Mat 1536 5248).Idx → EReal :=
  if h : t.val = 0 then broadcast (Mat 1536 5248) (Scalar.ofBits (F := Ideal) .f32 0x00000000#32) else acc m c (t.val - 1) (by have := t.isLt; omega)

theorem acc_eq (c : Dev nD) (t : Fin cfg0.N) :
    acc m c t.val t.isLt = fun i => start m c t i + dwTerm (iblk m c 0 t) (iblk m c 1 t) (iblk m c 2 t) i := by
  obtain ⟨n, h⟩ := t
  cases n with
  | zero => funext i; unfold acc start; rw [dif_pos rfl]
  | succ n =>
    funext i
    show acc m c (n + 1) h i = _
    unfold start
    rw [dif_neg (by simp)]
    rw [acc]
    rfl

/-! ## The pipeline's proof data -/

/-- The output windows of which nothing is said. -/
def forgets0 : Fin 8 → Bool := fun w => w.val == 4 || w.val == 5 || w.val == 6 || w.val == 7

/-- What the windows hold after the body at each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => acc m c t.val t.isLt
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = acc m c t.val t.isLt := by dsimp only [dats]

/-- After the first point the weight gradient is as the point before left it. -/
theorem before0_3 (c : Dev nD) (t : Fin cfg0.N) (h0 : ¬t.val % 32 = 0) (d) :
    (dats m 0 c).before 3 t d = acc m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

/-- The weight gradient that point `t` adds to. -/
theorem start_eq (c : Dev nD) (t : Fin cfg0.N) (d) :
    start m c t = if atZero (grid0.coords t) then broadcast (Mat 1536 5248) (Scalar.ofBits (F := Ideal) .f32 0x00000000#32) else (dats m 0 c).before 3 t d := by
  have hN : t.val < 32 := lt_of_lt_of_eq t.isLt (show cfg0.N = 32 from N_0)
  by_cases h : t.val % 32 = 0
  · rw [if_pos ((hcond0_0 t).mpr h)]
    unfold start
    rw [dif_pos (by omega)]
  · rw [if_neg (fun h' => h ((hcond0_0 t).mp h')), before0_3 m c t h]
    unfold start
    rw [dif_neg (by omega)]

/-- One chunk of columns of the weight gradient. -/
theorem chunk128 (Q1 : (Mat 512 1536).Idx → EReal) (Q2 : (Mat 512 5248).Idx → EReal) (Q3 : (Mat 512 164).Idx → EReal) (D : (Mat 1536 5248).Idx → EReal)
    (o : ℕ) (hp : o + 128 ≤ 5248) (y : (Mat 1536 128).Idx) :
    addf (F := Ideal) (φ := .f32) (shapeCast (s := Mat 1536 128) (Mat 1536 128) (fun y => D ((Mx.box (a := 1536) (b := 5248) 0 o 1536 128 (by omega) hp).toLoadRect.idx y)) (by decide))
        (matmul (F := Ideal) (φ₁ := .bf16) (φ₂ := .bf16) dot_S1536x512_S512x128_S1536x128_1_0_0_1_n_n none (fun y => Mx.Q9 (F := Ideal) Q1 ((Mx.box (a := 1536) (b := 512) 0 0 1536 512 (by omega) (by omega)).toLoadRect.idx y))
          (fun y => Mx.Q10 (F := Ideal) Q2 (scales Q3) ((Mx.box (a := 512) (b := 5248) 0 o 512 128 (by omega) hp).toLoadRect.idx y)) (constant (F := Ideal) (Mat 1536 128) .f32 0x00000000#32)) y
      = (fun i => D i + dwTerm Q1 Q2 Q3 i) ((Mx.box (a := 1536) (b := 5248) 0 o 1536 128 (by omega) hp).emb y) := by
  rw [shapeCast_self]
  obtain ⟨r, q, rfl⟩ : ∃ r q, y = ValueIdx.ix2 r q := ⟨y 0, y 1, ValueIdx.eq_ix2 y⟩
  have e1 : ∀ (k : Fin 512), (Mx.box (a := 1536) (b := 512) 0 0 1536 512 (by omega) (by omega)).toLoadRect.idx (ValueIdx.ix2 r k : (Mat 1536 512).Idx)
      = ValueIdx.ix2 ((Mx.box (a := 1536) (b := 5248) 0 o 1536 128 (by omega) hp).emb (ValueIdx.ix2 r q : (Mat 1536 128).Idx) 0) k := by
    intro k
    funext a
    apply Fin.ext
    rw [LoadRect.idx_apply]
    fin_cases a
    · show 0 + 1 * r.val = ((Mx.box (a := 1536) (b := 5248) 0 o 1536 128 (by omega) hp).emb (ValueIdx.ix2 r q : (Mat 1536 128).Idx) 0).val
      rw [Rect.emb_apply]; rfl
    · show 0 + 1 * k.val = k.val
      omega
  have e2 : ∀ (k : Fin 512), (Mx.box (a := 512) (b := 5248) 0 o 512 128 (by omega) hp).toLoadRect.idx (ValueIdx.ix2 k q : (Mat 512 128).Idx)
      = ValueIdx.ix2 k ((Mx.box (a := 1536) (b := 5248) 0 o 1536 128 (by omega) hp).emb (ValueIdx.ix2 r q : (Mat 1536 128).Idx) 1) := by
    intro k
    funext a
    apply Fin.ext
    rw [LoadRect.idx_apply]
    fin_cases a
    · show 0 + 1 * k.val = k.val
      omega
    · show o + 1 * q.val = ((Mx.box (a := 1536) (b := 5248) 0 o 1536 128 (by omega) hp).emb (ValueIdx.ix2 r q : (Mat 1536 128).Idx) 1).val
      rw [Rect.emb_apply]; rfl
  show (D ((Mx.box (a := 1536) (b := 5248) 0 o 1536 128 (by omega) hp).toLoadRect.idx (ValueIdx.ix2 r q : (Mat 1536 128).Idx)) : EReal)
    + FloatOps.matmul (F := Ideal) (φ₁ := .bf16) (φ₂ := .bf16) (DotDims.plain 1536 512 128) none _ _ _ (ValueIdx.ix2 r q) = _
  rw [Ideal.matmul_plain_apply]
  have e0 : (constant (F := Ideal) (Mat 1536 128) .f32 0x00000000#32 (ValueIdx.ix2 r q) : EReal) = 0 := Ideal.ofBits_zero_f32
  refine congrArg₂ (· + ·) rfl ?_
  refine (congrArg (· + _) e0).trans ((zero_add _).trans ?_)
  unfold dwTerm
  refine Finset.sum_congr rfl fun k _ => ?_
  rw [e1, e2]
  rfl

/-- One chunk of columns of the weight gradient. -/
theorem chunk512 (Q1 : (Mat 512 1536).Idx → EReal) (Q2 : (Mat 512 5248).Idx → EReal) (Q3 : (Mat 512 164).Idx → EReal) (D : (Mat 1536 5248).Idx → EReal)
    (o : ℕ) (hp : o + 512 ≤ 5248) (y : (Mat 1536 512).Idx) :
    addf (F := Ideal) (φ := .f32) (shapeCast (s := Mat 1536 512) (Mat 1536 512) (fun y => D ((Mx.box (a := 1536) (b := 5248) 0 o 1536 512 (by omega) hp).toLoadRect.idx y)) (by decide))
        (matmul (F := Ideal) (φ₁ := .bf16) (φ₂ := .bf16) dot_S1536x512_S512x512_S1536x512_1_0_0_1_n_n none (fun y => Mx.Q9 (F := Ideal) Q1 ((Mx.box (a := 1536) (b := 512) 0 0 1536 512 (by omega) (by omega)).toLoadRect.idx y))
          (fun y => Mx.Q10 (F := Ideal) Q2 (scales Q3) ((Mx.box (a := 512) (b := 5248) 0 o 512 512 (by omega) hp).toLoadRect.idx y)) (constant (F := Ideal) (Mat 1536 512) .f32 0x00000000#32)) y
      = (fun i => D i + dwTerm Q1 Q2 Q3 i) ((Mx.box (a := 1536) (b := 5248) 0 o 1536 512 (by omega) hp).emb y) := by
  rw [shapeCast_self]
  obtain ⟨r, q, rfl⟩ : ∃ r q, y = ValueIdx.ix2 r q := ⟨y 0, y 1, ValueIdx.eq_ix2 y⟩
  have e1 : ∀ (k : Fin 512), (Mx.box (a := 1536) (b := 512) 0 0 1536 512 (by omega) (by omega)).toLoadRect.idx (ValueIdx.ix2 r k : (Mat 1536 512).Idx)
      = ValueIdx.ix2 ((Mx.box (a := 1536) (b := 5248) 0 o 1536 512 (by omega) hp).emb (ValueIdx.ix2 r q : (Mat 1536 512).Idx) 0) k := by
    intro k
    funext a
    apply Fin.ext
    rw [LoadRect.idx_apply]
    fin_cases a
    · show 0 + 1 * r.val = ((Mx.box (a := 1536) (b := 5248) 0 o 1536 512 (by omega) hp).emb (ValueIdx.ix2 r q : (Mat 1536 512).Idx) 0).val
      rw [Rect.emb_apply]; rfl
    · show 0 + 1 * k.val = k.val
      omega
  have e2 : ∀ (k : Fin 512), (Mx.box (a := 512) (b := 5248) 0 o 512 512 (by omega) hp).toLoadRect.idx (ValueIdx.ix2 k q : (Mat 512 512).Idx)
      = ValueIdx.ix2 k ((Mx.box (a := 1536) (b := 5248) 0 o 1536 512 (by omega) hp).emb (ValueIdx.ix2 r q : (Mat 1536 512).Idx) 1) := by
    intro k
    funext a
    apply Fin.ext
    rw [LoadRect.idx_apply]
    fin_cases a
    · show 0 + 1 * k.val = k.val
      omega
    · show o + 1 * q.val = ((Mx.box (a := 1536) (b := 5248) 0 o 1536 512 (by omega) hp).emb (ValueIdx.ix2 r q : (Mat 1536 512).Idx) 1).val
      rw [Rect.emb_apply]; rfl
  show (D ((Mx.box (a := 1536) (b := 5248) 0 o 1536 512 (by omega) hp).toLoadRect.idx (ValueIdx.ix2 r q : (Mat 1536 512).Idx)) : EReal)
    + FloatOps.matmul (F := Ideal) (φ₁ := .bf16) (φ₂ := .bf16) (DotDims.plain 1536 512 512) none _ _ _ (ValueIdx.ix2 r q) = _
  rw [Ideal.matmul_plain_apply]
  have e0 : (constant (F := Ideal) (Mat 1536 512) .f32 0x00000000#32 (ValueIdx.ix2 r q) : EReal) = 0 := Ideal.ofBits_zero_f32
  refine congrArg₂ (· + ·) rfl ?_
  refine (congrArg (· + _) e0).trans ((zero_add _).trans ?_)
  unfold dwTerm
  refine Finset.sum_congr rfl fun k _ => ?_
  rw [e1, e2]
  rfl

/-! ## The body at a point -/

/-- What the body starts from at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 2400000 in
/-- What the tiles leave is what the point returns. -/
theorem post_of (c : Dev nD) (t : Fin cfg0.N) (D : (Mat 1536 5248).Idx → Ideal .f32) (hD : D = acc m c t.val t.isLt) :
    (iprop(St (bufs t) c True (iblk m c 0 t) (iblk m c 1 t) (iblk m c 2 t) (scales (iblk m c 2 t)) 24 82 D
      ∗ ((∃ r, prngReg c r) ∗ (dats m 0 c).owesAt () t.castSucc)) : sProp 𝕄) ⊢ bodyPost m c t := by
  unfold bodyPost St
  rw [show (dats m 0 c).Φ t.succ = (dats m 0 c).Φ t.castSucc from rfl,
    show (dats m 0 c).owesAt () t.succ = (dats m 0 c).owesAt () t.castSucc from rfl,
    after0_0, after0_1, after0_2, after0_3, ← hD]
  rw [show (dats m 0 c).Φ t.castSucc = Pipeline.ΦA spec0 c from rfl, PhiA0_eq]
  iintro ⟨⟨H0, H1, H2, H3, H4, H5, H6, H7, S0, S1, S2, S3⟩, Hg, Ho⟩
  ihave H0 := (owns_of_held c (ms0_0 t) _) $$ H0
  ihave H1 := (owns_of_held c (ms0_1 t) _) $$ H1
  ihave H2 := (owns_of_held c (ms0_2 t) _) $$ H2
  ihave H3 := (owns_of_held c (ms0_3 t) _) $$ H3
  ihave H4 := (owns_of_any c (ms0_4 t)) $$ H4
  ihave H5 := (owns_of_any c (ms0_5 t)) $$ H5
  ihave H6 := (owns_of_any c (ms0_6 t)) $$ H6
  ihave H7 := (owns_of_any c (ms0_7 t)) $$ H7
  ihave S0 := (Mx.held_anyAt c) $$ S0
  ihave S0 := (owns_of_any c scM0_0) $$ S0
  ihave S1 := (Mx.held_anyAt c) $$ S1
  ihave S1 := (owns_of_any c scM0_1) $$ S1
  ihave S2 := (owns_of_any c scM0_2) $$ S2
  ihave S3 := (owns_of_any c scM0_3) $$ S3
  isplitl [S0 S1 S2 S3 Hg]
  · isplitl [S0 S1 S2 S3]
    · isplitl [S0]
      · iexact S0
      isplitl [S1]
      · iexact S1
      isplitl [S2]
      · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 2400000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre
  simp only [before0_0, before0_1, before0_2]
  rw [show (dats m 0 c).Φ t.castSucc = Pipeline.ΦA spec0 c from rfl, PhiA0_eq]
  iintro ⟨⟨⟨⟨%e0, S0⟩, ⟨%e1, S1⟩, ⟨%e2, S2⟩, ⟨%e3, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have R := body_run (F := Ideal) c (grid0.coords t) (bufs t) (hs0_0 t) (hs0_1 t) (hs0_2 t) (hs0_3 t) (hs0_5 t) (hs0_7 t) (Memref.isWhole_whole _) (Memref.isWhole_whole _)
    (A := True) (iblk m c 0 t) (iblk m c 1 t) (iblk m c 2 t) (scales (iblk m c 2 t)) ((dats m 0 c).before 3 t d3) (start m c t) (fun i => start m c t i + dwTerm (iblk m c 0 t) (iblk m c 1 t) (iblk m c 2 t) i)
    Set.univ (fun _ => bodyPost m c t) iprop((∃ r, prngReg c r) ∗ (dats m 0 c).owesAt () t.castSucc)
    (start_eq m c t d3) (fun u c hu hp => scales_full _ u c hu hp) (fun u c hu hp h => scales_pad _ u c hu hp h) (fun _ o hp y => chunk512 _ _ _ _ o hp y) (fun _ o hp y => chunk128 _ _ _ _ o hp y)
    (post_of m c t _ ((funext fun i => if_pos (i 1).isLt).trans (acc_eq m c t).symm))
  iapply R
  unfold St
  isplitr [Hg Ho]
  · isplitl [H0]; · iapply (held_of_owns c (ms0_0 t) True _) $$ H0
    isplitl [H1]; · iapply (held_of_owns c (ms0_1 t) True _) $$ H1
    isplitl [H2]; · iapply (held_of_owns c (ms0_2 t) True _) $$ H2
    isplitl [H3]; · iapply (held_of_owns c (ms0_3 t) True _) $$ H3
    isplitl [H4]; · iapply (any_of_owns c (ms0_4 t) _) $$ H4
    isplitl [H5]; · iapply (any_of_owns c (ms0_5 t) _) $$ H5
    isplitl [H6]; · iapply (any_of_owns c (ms0_6 t) _) $$ H6
    isplitl [H7]; · iapply (any_of_owns c (ms0_7 t) _) $$ H7
    isplitl [S0]; · iapply (held_of_owns_none c scM0_0 (fun i h => Nat.not_lt_zero _ h) e0) $$ S0
    isplitl [S1]; · iapply (held_of_owns_none c scM0_1 (fun i h => Nat.not_lt_zero _ h) e1) $$ S1
    isplitl [S2]; · iapply (any_of_owns c scM0_2 _) $$ S2
    iapply (any_of_owns c scM0_3 _) $$ S3
  · isplitl [Hg]; · iexact Hg
    iexact Ho

/-- The body table's row is the body. -/
theorem defs₀_row (t : Fin cfg0.N) :
    defs₀ (F := Ideal) .tc cfg0.body (cfg0.bodyArgs t (cfg0.slots t)) = bodyAt0 t := by
  unfold defs₀; rw [Defs.onTc_tc]

/-- The body's triple, at every point. -/
theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

/-! ## The run -/

set_option backward.isDefEq.respectTransparency.types false in
/-- The run of the program. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The last point of the grid. -/
def tLast : Fin cfg0.N := ⟨32 - 1, by rw [show cfg0.N = 32 from N_0]; decide⟩

/-- The weight gradient's array after the run. -/
theorem final3 (c : Dev nD) : (dats m 0 c).arrAt 3 cfg0.N = acc m c (tLast).val (tLast).isLt := by
  refine (dats m 0 c).arrAt_eq_of_after_last 3 tLast (by decide +kernel) _ fun j => ?_
  rw [after0_3]
  rfl

/-- The arguments end unchanged, the weight gradient as accumulated, every counter at zero. -/
theorem run : θ_run defs (onTc (τ := τ) (main (F := Ideal))) ⟨m, fun _ => 0, ρ⟩ (fun r => (∀ c : Dev nD,
      r.2.mem ((c.tc : Thread nD τ).loc main_v3_0) = acc m c (tLast).val (tLast).isLt
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r (h : _ ∧ _) => ⟨fun c => ⟨(((dats m 0 c).toRForget_arrAt_iff (fgt := forgets0) (w := 3) rfl _ _).mp ((h.1 c).1 3)).trans (final3 m c), ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main_quiescent m ρ)

end Cert.KernelIdeal.Gen

end
-- ==== Proof.KVal.lean ====
/-
  What the kernel computes, element by element.
-/
module

public import proofs.«01_k».proof.Proof.Quant
public import proofs.«01_k».proof.Proof.RunIdeal

@[expose] public section

set_option maxRecDepth 16384

noncomputable section

namespace Cert.KernelIdeal.Gen

open Idealize.ShloMosaic Idealize.ShloMosaic.TcCoe Idealize.SL.Sem
open Mx (Mat Cube colHat col dcol dwS)

/-- The scale of a column of a row. -/
theorem scales_val (Q3 : (Mat 512 164).Idx → EReal) (r : Fin 512) (j : Fin 5248) :
    scales Q3 (r.val / 256) (j.val / 128) (ValueIdx.ix2 (Fin.ofNat 256 r.val) (Fin.ofNat 128 j.val)) = Q3 (ValueIdx.ix2 r (Fin.ofNat 164 (j.val / 32))) := by
  have hr := r.isLt
  have hj := j.isLt
  have hu : 256 * (r.val / 256) + 256 ≤ 512 := by omega
  have ej : (Fin.ofNat 128 j.val).val = j.val % 128 := rfl
  by_cases hp : 4 * (j.val / 128) / 128 * 128 + 128 ≤ 164
  · rw [← scales_full Q3 _ _ hu hp, Mx.scFull_at _ _ _ _ (by rw [ej]; omega)]
    congr 1
    funext a
    match a with
    | ⟨0, _⟩ =>
      refine Fin.ext ?_
      show 256 * (r.val / 256) + 1 * (r.val % 256) = r.val
      omega
    | ⟨1, _⟩ =>
      refine Fin.ext ?_
      show 4 * (j.val / 128) / 128 * 128 + 1 * (j.val % 128 / 32 + 4 * (j.val / 128) % 128) = j.val / 32 % 164
      omega
  · have hp' : 4 * (j.val / 128) / 128 * 128 + 36 ≤ 164 := by omega
    rw [← scales_pad Q3 _ _ hu hp' (by omega), Mx.scPad_at _ _ _ _ _ _ _ (by rw [ej]; omega) (by rw [ej]; omega)]
    congr 1
    funext a
    match a with
    | ⟨0, _⟩ =>
      refine Fin.ext ?_
      show 256 * (r.val / 256) + 1 * (r.val % 256) = r.val
      omega
    | ⟨1, _⟩ =>
      refine Fin.ext ?_
      show 4 * (j.val / 128) / 128 * 128 + 1 * (j.val % 128 / 32 + 4 * (j.val / 128) % 128) = j.val / 32 % 164
      omega

/-- What one grid step adds. -/
theorem dwTerm_val (Q1 : (Mat 512 1536).Idx → EReal) (Q2 : (Mat 512 5248).Idx → EReal) (Q3 : (Mat 512 164).Idx → EReal) (i : Fin 1536) (j : Fin 5248) :
    dwTerm Q1 Q2 Q3 (ValueIdx.ix2 i j) = dwS (col Q1 i) (dcol Q2 Q3 j) 512 := by
  unfold dwTerm dwS
  rw [Finset.sum_range]
  refine Finset.sum_congr rfl fun k _ => ?_
  show Mx.Q9 (F := Ideal) Q1 (ValueIdx.ix2 i k) * Mx.Q10 (F := Ideal) Q2 (scales Q3) (ValueIdx.ix2 k j) = _
  rw [Mx.Q9_val (by decide), Mx.Q10_val (by decide) Q2 (scales Q3) (fun r => Q2 (ValueIdx.ix2 r j) * Q3 (ValueIdx.ix2 r (Fin.ofNat 164 (j.val / 32)))) k j
    (fun r => by rw [scales_val])]
  rfl

variable (m : (ℓ : Loc nD τ sig) → Buf (Elt Ideal) ℓ)

theorem index0_0 : ∀ t : Fin cfg0.N, win0_0.index t 0 = t.val ∧ win0_0.index t 1 = 0 := by decide +kernel

theorem iblk0_at (c : Dev nD) (t : Fin cfg0.N) (r : ℕ) (hr : r < 512) (i : Fin 1536) :
    (iblk m c 0 t : (Mat 512 1536).Idx → EReal) (ValueIdx.ix2 (Fin.ofNat 512 r) i)
      = (V m c main_v0 : (Mat 16384 1536).Idx → EReal) (ValueIdx.ix2 (Fin.ofNat 16384 (512 * t.val + r)) i) := by
  have ht : t.val < 32 := lt_of_lt_of_eq t.isLt N_0
  obtain ⟨h0, h1⟩ := index0_0 t
  unfold iblk
  rw [View.read_apply]
  show V m c main_v0 _ = V m c main_v0 _
  congr 1
  funext a
  apply Fin.ext
  match a with
  | ⟨0, _⟩ => show win0_0.index t 0 * 512 + 1 * (r % 512) = (512 * t.val + r) % 16384; rw [h0]; omega
  | ⟨1, _⟩ => show win0_0.index t 1 * 1536 + 1 * i.val = i.val; rw [h1]; omega

theorem V0_eq (c : Dev nD) : V m c main_v0 = shapeCast S16384x1536 (m (c.tc.loc main_arg0)) shapeCasts_S2x8192x1536_S16384x1536 := by
  entry_read
  rfl

theorem index0_1 : ∀ t : Fin cfg0.N, win0_1.index t 0 = t.val ∧ win0_1.index t 1 = 0 := by decide +kernel

theorem iblk1_at (c : Dev nD) (t : Fin cfg0.N) (r : ℕ) (hr : r < 512) (i : Fin 5248) :
    (iblk m c 1 t : (Mat 512 5248).Idx → EReal) (ValueIdx.ix2 (Fin.ofNat 512 r) i)
      = (V m c main_v1 : (Mat 16384 5248).Idx → EReal) (ValueIdx.ix2 (Fin.ofNat 16384 (512 * t.val + r)) i) := by
  have ht : t.val < 32 := lt_of_lt_of_eq t.isLt N_0
  obtain ⟨h0, h1⟩ := index0_1 t
  unfold iblk
  rw [View.read_apply]
  show V m c main_v1 _ = V m c main_v1 _
  congr 1
  funext a
  apply Fin.ext
  match a with
  | ⟨0, _⟩ => show win0_1.index t 0 * 512 + 1 * (r % 512) = (512 * t.val + r) % 16384; rw [h0]; omega
  | ⟨1, _⟩ => show win0_1.index t 1 * 5248 + 1 * i.val = i.val; rw [h1]; omega

theorem V1_eq (c : Dev nD) : V m c main_v1 = shapeCast S16384x5248 (m (c.tc.loc main_arg1)) shapeCasts_S2x8192x5248_S16384x5248 := by
  entry_read
  rfl

theorem index0_2 : ∀ t : Fin cfg0.N, win0_2.index t 0 = t.val ∧ win0_2.index t 1 = 0 := by decide +kernel

theorem iblk2_at (c : Dev nD) (t : Fin cfg0.N) (r : ℕ) (hr : r < 512) (i : Fin 164) :
    (iblk m c 2 t : (Mat 512 164).Idx → EReal) (ValueIdx.ix2 (Fin.ofNat 512 r) i)
      = (V m c main_v2 : (Mat 16384 164).Idx → EReal) (ValueIdx.ix2 (Fin.ofNat 16384 (512 * t.val + r)) i) := by
  have ht : t.val < 32 := lt_of_lt_of_eq t.isLt N_0
  obtain ⟨h0, h1⟩ := index0_2 t
  unfold iblk
  rw [View.read_apply]
  show V m c main_v2 _ = V m c main_v2 _
  congr 1
  funext a
  apply Fin.ext
  match a with
  | ⟨0, _⟩ => show win0_2.index t 0 * 512 + 1 * (r % 512) = (512 * t.val + r) % 16384; rw [h0]; omega
  | ⟨1, _⟩ => show win0_2.index t 1 * 164 + 1 * i.val = i.val; rw [h1]; omega

theorem V2_eq (c : Dev nD) : V m c main_v2 = shapeCast S16384x164 (m (c.tc.loc main_arg2)) shapeCasts_S2x8192x164_S16384x164 := by
  entry_read
  rfl

/-- One grid step's share, in the rows of the whole operands. -/
theorem step_val (c : Dev nD) (t : Fin cfg0.N) (i : Fin 1536) (j : Fin 5248) :
    dwS (col (T := 16384) (n := 1536) (V m c main_v0) i) (dcol (T := 16384) (n := 5248) (g := 164) (V m c main_v1) (V m c main_v2) j) (512 * t.val)
        + dwTerm (iblk m c 0 t) (iblk m c 1 t) (iblk m c 2 t) (ValueIdx.ix2 i j)
      = dwS (col (T := 16384) (n := 1536) (V m c main_v0) i) (dcol (T := 16384) (n := 5248) (g := 164) (V m c main_v1) (V m c main_v2) j) (512 * t.val + 512) := by
  rw [dwTerm_val]
  refine Mx.dwS_add _ _ _ _ (512 * t.val) (by omega) (fun r hr => iblk0_at m c t r hr i) fun r hr => ?_
  refine congrArg₂ (fun a b : EReal => a * b) (iblk1_at m c t r hr j) (iblk2_at m c t r hr _)

theorem acc_zero (c : Dev nD) (h : 0 < cfg0.N) (y : (Mat 1536 5248).Idx) : (acc m c 0 h : (Mat 1536 5248).Idx → EReal) y
      = (0 : EReal) + dwTerm (iblk m c 0 ⟨0, h⟩) (iblk m c 1 ⟨0, h⟩) (iblk m c 2 ⟨0, h⟩) y := by
  rw [← Ideal.ofBits_zero_f32]
  rfl

theorem acc_succ (c : Dev nD) (n : ℕ) (h : n + 1 < cfg0.N) (y : (Mat 1536 5248).Idx) : (acc m c (n + 1) h : (Mat 1536 5248).Idx → EReal) y
      = (acc m c n (Nat.lt_of_succ_lt h) : (Mat 1536 5248).Idx → EReal) y + dwTerm (iblk m c 0 ⟨n + 1, h⟩) (iblk m c 1 ⟨n + 1, h⟩) (iblk m c 2 ⟨n + 1, h⟩) y := rfl

theorem acc_val (c : Dev nD) (i : Fin 1536) (j : Fin 5248) : ∀ (n : ℕ) (h : n < cfg0.N), (acc m c n h : (Mat 1536 5248).Idx → EReal) (ValueIdx.ix2 i j)
      = dwS (col (T := 16384) (n := 1536) (V m c main_v0) i) (dcol (T := 16384) (n := 5248) (g := 164) (V m c main_v1) (V m c main_v2) j) (512 * n + 512)
  | 0, h => by
    rw [acc_zero]
    exact step_val m c ⟨0, h⟩ i j
  | n + 1, h => by
    rw [acc_succ, acc_val c i j n (Nat.lt_of_succ_lt h)]
    exact step_val m c ⟨n + 1, h⟩ i j

/-- The kernel's result, element by element. -/
theorem final_val (c : Dev nD) (i : Fin 1536) (j : Fin 5248) : (acc m c tLast.val tLast.isLt : (Mat 1536 5248).Idx → EReal) (ValueIdx.ix2 i j)
      = dwS (col (T := 16384) (n := 1536) (V m c main_v0) i) (dcol (T := 16384) (n := 5248) (g := 164) (V m c main_v1) (V m c main_v2) j) 16384 :=
  acc_val m c i j _ _

end Cert.KernelIdeal.Gen

end
-- ==== Proof.RefVal.lean ====
/-
  What the reference computes, element by element.
-/
module

public import proofs.«01_k».proof.Proof.Quant
public import proofs.«01_k».proof.Proof.Gen.ReferenceIdeal.Frame

@[expose] public section

set_option maxRecDepth 16384

noncomputable section

namespace Cert.ReferenceIdeal.Gen

open Idealize.ShloMosaic Idealize.ShloMosaic.TcCoe Idealize.SL.Sem
open Mx (Mat Cube colHat col dcol dwS)

theorem pay5_eq (v38 : FVec Ideal (Mat 16384 1536) .bf16) :
    k0_pay5 (k0_pay3 v38) (k0_pay4 v38) (Scalar.ofBits .f32 0x3B124925#32)
      = Mx.refHat (T := 16384) .fp8e4m3 bitsLt_fp8e4m3_f32 bitsLt_fp8e4m3_bf16 0xC3E00000#32 0x43E00000#32 (k0_pay3 v38)
        (Mx.expV (mulf (multiReduction .maximumf [1] (Mat 512 1536) (absf (k0_pay3 v38)) 0xFF800000#32 reduces_S512x32x1536_S512x1536 (.inl rfl) rfl)
            (broadcast (Mat 512 1536) (Scalar.ofBits .f32 0x3B124925#32)))
          iota_S252x1x1_d0_w32 shapeCasts_S512x1536_S1x512x1536 broadcasts_S1x512x1536_S252x512x1536 broadcasts_S252x1x1_S252x512x1536 reduces_S252x512x1536_S512x1536)
        shapeCasts_S512x1536_S512x1x1536 broadcasts_S512x1x1536_S512x32x1536 shapeCasts_S512x32x1536_S16384x1536 := rfl

theorem pay1_eq (L : FVec Ideal (Mat 16384 1536) .bf16) (Y : FVec Ideal (Mat 16384 5248) .f32) :
    k0_pay1 L (k0_pay6 Y) (k0_pay7 Y) k0_pay8 k0_pay9
      = matmul dot_S16384x1536_S16384x5248_S1536x5248_0_0_1_1_n_n none L
        (Mx.refHat (T := 16384) .fp8e5m2 bitsLt_fp8e5m2_f32 bitsLt_fp8e5m2_bf16 0xC7600000#32 0x47600000#32 (k0_pay6 Y)
          (Mx.expV (mulf (multiReduction .maximumf [1] (Mat 512 5248) (absf (k0_pay6 Y)) 0xFF800000#32 reduces_S512x32x5248_S512x5248 (.inl rfl) rfl)
              (broadcast (Mat 512 5248) (Scalar.ofBits .f32 0x37924925#32)))
            iota_S252x1x1_d0_w32 shapeCasts_S512x5248_S1x512x5248 broadcasts_S1x512x5248_S252x512x5248 broadcasts_S252x1x1_S252x512x5248 reduces_S252x512x5248_S512x5248)
          shapeCasts_S512x5248_S512x1x5248 broadcasts_S512x1x5248_S512x32x5248 shapeCasts_S512x32x5248_S16384x5248)
        (constant (Mat 1536 5248) .f32 0x00000000#32) := rfl

theorem pay2_eq (S : FVec Ideal (Mat 16384 164) .f32) (C : FVec Ideal (Mat 16384 5248) .fp8e5m2) :
    k0_pay2 S C = mulf (extf .f32 (shapeCast (Mat 16384 5248) C shapeCasts_S16384x5248_S16384x5248) bitsLt_fp8e5m2_f32)
      (matmul dot_S16384x164_S164x5248_S16384x5248_1_0_0_1_n_n none (truncf .bf16 (shapeCast (Mat 16384 164) S shapeCasts_S16384x164_S16384x164) bitsLt_bf16_f32)
        (Mx.oneHot iota_S164x5248_d1_w32 iota_S164x5248_d0_w32) (constant (Mat 16384 5248) .f32 0x00000000#32)) := rfl

theorem dot_plain : dot_S16384x164_S164x5248_S16384x5248_1_0_0_1_n_n = DotDims.plain 16384 164 5248 := rfl

/-- The dequantised gradient. -/
theorem pay2_at (S : FVec Ideal (Mat 16384 164) .f32) (C : FVec Ideal (Mat 16384 5248) .fp8e5m2) (r : Fin 16384) (j : Fin 5248) :
    k0_pay2 (F := Ideal) S C (ValueIdx.ix2 r j) = ((C : (Mat 16384 5248).Idx → EReal) (ValueIdx.ix2 r j) * (S : (Mat 16384 164).Idx → EReal) (ValueIdx.ix2 r (Fin.ofNat 164 (j.val / 32))) : EReal) := by
  have hj := j.isLt
  have e : (⟨j.val / 32, by omega⟩ : Fin 164) = Fin.ofNat 164 (j.val / 32) := Fin.ext (by show j.val / 32 = j.val / 32 % 164; omega)
  rw [pay2_eq, shapeCast_self, shapeCast_self]
  show (C (ValueIdx.ix2 r j) : EReal) * FloatOps.matmul (F := Ideal) dot_S16384x164_S164x5248_S16384x5248_1_0_0_1_n_n none (truncf (F := Ideal) .bf16 S bitsLt_bf16_f32)
    (Mx.oneHot iota_S164x5248_d1_w32 iota_S164x5248_d0_w32) (constant (Mat 16384 5248) .f32 0x00000000#32) (ValueIdx.ix2 r j) = _
  rw [dot_plain, Mx.pick_at _ _ _ r j (by decide) (by decide) (by omega), Mx.truncf_at, e]

/-- The product over the rows. -/
theorem rows_at (L : FVec Ideal (Mat 16384 1536) .bf16) (R : FVec Ideal (Mat 16384 5248) .bf16) (i : Fin 1536) (j : Fin 5248) :
    matmul dot_S16384x1536_S16384x5248_S1536x5248_0_0_1_1_n_n none L R (constant (Mat 1536 5248) .f32 0x00000000#32) (ValueIdx.ix2 i j)
      = ∑ k ∈ Finset.range 16384, L (ValueIdx.ix2 (Fin.ofNat 16384 k) i) * R (ValueIdx.ix2 (Fin.ofNat 16384 k) j) := by
  refine (Ideal.matmul_constant_zero_apply dot_S16384x1536_S16384x5248_S1536x5248_0_0_1_1_n_n none L R (ValueIdx.ix2 i j)).trans ?_
  refine (Finset.sum_congr rfl fun q _ => ?_).trans
    (Fin.sum_idx1_range dot_S16384x1536_S16384x5248_S1536x5248_0_0_1_1_n_n.contr.size
      (fun k => (L (ValueIdx.ix2 (Fin.ofNat 16384 k) i) * R (ValueIdx.ix2 (Fin.ofNat 16384 k) j) : EReal)))
  have hq : (q ⟨0, Nat.one_pos⟩).val < 16384 := (q ⟨0, Nat.one_pos⟩).isLt
  have e1 : dot_S16384x1536_S16384x5248_S1536x5248_0_0_1_1_n_n.lhsIdx (ValueIdx.ix2 i j) q = ValueIdx.ix2 (Fin.ofNat 16384 (q ⟨0, Nat.one_pos⟩).val) i := by
    funext a
    match a with
    | ⟨0, _⟩ => exact Fin.ext (Nat.mod_eq_of_lt hq).symm
    | ⟨1, _⟩ => rfl
  have e2 : dot_S16384x1536_S16384x5248_S1536x5248_0_0_1_1_n_n.rhsIdx (ValueIdx.ix2 i j) q = ValueIdx.ix2 (Fin.ofNat 16384 (q ⟨0, Nat.one_pos⟩).val) j := by
    funext a
    match a with
    | ⟨0, _⟩ => exact Fin.ext (Nat.mod_eq_of_lt hq).symm
    | ⟨1, _⟩ => rfl
  rw [e1, e2]
  rfl

theorem x_eq (v38 : FVec Ideal (Mat 16384 1536) .bf16) :
    (extf .f32 (shapeCast (Mat 16384 1536) v38 shapeCasts_S16384x1536_S16384x1536) bitsLt_bf16_f32 : FVec Ideal (Mat 16384 1536) .f32) = (v38 : (Mat 16384 1536).Idx → EReal) := by
  funext i
  rw [Mx.extf_at, shapeCast_self]

/-- The weight gradient. -/
theorem out_val (x0 : FVec Ideal (Mat 16384 1536) .bf16) (x1 : FVec Ideal (Mat 16384 5248) .fp8e5m2) (x2 : FVec Ideal (Mat 16384 164) .f32) (i : Fin 1536) (j : Fin 5248) :
    out0_3 (F := Ideal) x0 x1 x2 (ValueIdx.ix2 i j) = dwS (col x0 i) (dcol x1 x2 j) 16384 := by
  unfold out0_3 k0_pay10
  rw [View.canon_cons_unit_lit _ _ _ (by decide), View.ld_unit_lit _ _ (by decide), View.ld_unit_lit _ _ (by decide), View.ld_unit_lit _ _ (by decide), pay1_eq, rows_at]
  refine Finset.sum_congr rfl fun k hk => ?_
  have hk : k < 16384 := Finset.mem_range.1 hk
  have ek : (Fin.ofNat 16384 k).val = k := Nat.mod_eq_of_lt hk
  rw [pay5_eq, Mx.quant_at (B := 512) rfl .fp8e4m3 bitsLt_fp8e4m3_f32 bitsLt_fp8e4m3_bf16 _ _ _
      (extf .f32 (shapeCast (Mat 16384 1536) x0 shapeCasts_S16384x1536_S16384x1536) bitsLt_bf16_f32) (k0_pay3 x0) shapeCasts_S16384x1536_S512x32x1536 rfl,
    Mx.quant_at (B := 512) rfl .fp8e5m2 bitsLt_fp8e5m2_f32 bitsLt_fp8e5m2_bf16 _ _ _ (k0_pay2 x2 x1) (k0_pay6 (k0_pay2 x2 x1)) shapeCasts_S16384x5248_S512x32x5248 rfl,
    ek, x_eq]
  have ed : col (k0_pay2 (F := Ideal) x2 x1 : (Mat 16384 5248).Idx → EReal) j = dcol x1 x2 j := funext fun r => pay2_at x2 x1 (Fin.ofNat 16384 r) j
  rw [ed]

variable (m : (ℓ : Loc nD τ sig) → Buf (Elt Ideal) ℓ) (ρ : Dev nD → PrngReg)

theorem iblk0_eq (c : Dev nD) (t : Fin cfg0.N) : (iblk m c 0 t : (Mat 16384 1536).Idx → EReal) = V m c main_v0 := by
  funext j
  unfold iblk
  rw [View.read_apply]
  show V m c main_v0 _ = V m c main_v0 _
  congr 1
  funext a
  apply Fin.ext
  match a with
  | ⟨0, _⟩ => show 0 * 16384 + 1 * (j 0).val = (j 0).val; omega
  | ⟨1, _⟩ => show 0 * 1536 + 1 * (j 1).val = (j 1).val; omega

theorem V0_eq (c : Dev nD) : V m c main_v0 = shapeCast S16384x1536 (m (c.tc.loc main_arg0)) shapeCasts_S2x8192x1536_S16384x1536 := by
  entry_read
  rfl

theorem iblk1_eq (c : Dev nD) (t : Fin cfg0.N) : (iblk m c 1 t : (Mat 16384 5248).Idx → EReal) = V m c main_v1 := by
  funext j
  unfold iblk
  rw [View.read_apply]
  show V m c main_v1 _ = V m c main_v1 _
  congr 1
  funext a
  apply Fin.ext
  match a with
  | ⟨0, _⟩ => show 0 * 16384 + 1 * (j 0).val = (j 0).val; omega
  | ⟨1, _⟩ => show 0 * 5248 + 1 * (j 1).val = (j 1).val; omega

theorem V1_eq (c : Dev nD) : V m c main_v1 = shapeCast S16384x5248 (m (c.tc.loc main_arg1)) shapeCasts_S2x8192x5248_S16384x5248 := by
  entry_read
  rfl

theorem iblk2_eq (c : Dev nD) (t : Fin cfg0.N) : (iblk m c 2 t : (Mat 16384 164).Idx → EReal) = V m c main_v2 := by
  funext j
  unfold iblk
  rw [View.read_apply]
  show V m c main_v2 _ = V m c main_v2 _
  congr 1
  funext a
  apply Fin.ext
  match a with
  | ⟨0, _⟩ => show 0 * 16384 + 1 * (j 0).val = (j 0).val; omega
  | ⟨1, _⟩ => show 0 * 164 + 1 * (j 1).val = (j 1).val; omega

theorem V2_eq (c : Dev nD) : V m c main_v2 = shapeCast S16384x164 (m (c.tc.loc main_arg2)) shapeCasts_S2x8192x164_S16384x164 := by
  entry_read
  rfl

theorem final (c : Dev nD) : (dats m 0 c).arrAt 3 cfg0.N = out0_3 (F := Ideal) (V m c main_v0) (V m c main_v1) (V m c main_v2) :=
  (dats m 0 c).arrAt_eq_of_after_last 3 ⟨0, Nat.one_pos⟩ (by decide +kernel) _ fun j => by
    rw [after0_3, iblk0_eq, iblk1_eq, iblk2_eq]
    generalize out0_3 (F := Ideal) (V m c main_v0) (V m c main_v1) (V m c main_v2) = G
    rfl

/-- The reference's result, element by element. -/
theorem final_val (c : Dev nD) (i : Fin 1536) (j : Fin 5248) :
    ((dats m 0 c).arrAt 3 cfg0.N : (Mat 1536 5248).Idx → EReal) (ValueIdx.ix2 i j)
      = dwS (col (T := 16384) (n := 1536) (V m c main_v0) i) (dcol (T := 16384) (n := 5248) (g := 164) (V m c main_v1) (V m c main_v2) j) 16384 := by
  rw [final]
  exact out_val _ _ _ i j

end Cert.ReferenceIdeal.Gen

end
-- ==== Proof.lean ====
module

public import proofs.«01_k».proof.Defs
public import proofs.«01_k».proof.Proof.RunBits
public import proofs.«01_k».proof.Proof.KVal
public import proofs.«01_k».proof.Proof.RefVal
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

/-- The two weight gradients. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    ((Cert.ReferenceIdeal.Gen.dats m' 0 c).arrAt 3 Cert.ReferenceIdeal.cfg0.N : (Mx.Mat 1536 5248).Idx → EReal)
      = (Cert.KernelIdeal.Gen.acc m c Cert.KernelIdeal.Gen.tLast.val Cert.KernelIdeal.Gen.tLast.isLt : (Mx.Mat 1536 5248).Idx → EReal) := by
  have e0 : (Cert.ReferenceIdeal.Gen.V m' c Cert.ReferenceIdeal.main_v0 : (Mx.Mat 16384 1536).Idx → EReal) = Cert.KernelIdeal.Gen.V m c Cert.KernelIdeal.main_v0 := by
    rw [Cert.ReferenceIdeal.Gen.V0_eq, Cert.KernelIdeal.Gen.V0_eq, h0]
  have e1 : (Cert.ReferenceIdeal.Gen.V m' c Cert.ReferenceIdeal.main_v1 : (Mx.Mat 16384 5248).Idx → EReal) = Cert.KernelIdeal.Gen.V m c Cert.KernelIdeal.main_v1 := by
    rw [Cert.ReferenceIdeal.Gen.V1_eq, Cert.KernelIdeal.Gen.V1_eq, h1]
  have e2 : (Cert.ReferenceIdeal.Gen.V m' c Cert.ReferenceIdeal.main_v2 : (Mx.Mat 16384 164).Idx → EReal) = Cert.KernelIdeal.Gen.V m c Cert.KernelIdeal.main_v2 := by
    rw [Cert.ReferenceIdeal.Gen.V2_eq, Cert.KernelIdeal.Gen.V2_eq, h2]
  funext y
  have hy : y = ValueIdx.ix2 (y 0) (y 1) := by
    funext a
    match a with
    | ⟨0, _⟩ => rfl
    | ⟨1, _⟩ => rfl
  rw [hy]
  refine (Cert.ReferenceIdeal.Gen.final_val m' c (y 0) (y 1)).trans ?_
  rw [e0, e1, e2]
  exact (Cert.KernelIdeal.Gen.final_val m c (y 0) (y 1)).symm

theorem claim : Cert.Claim :=
  ⟨Cert.Kernel.Gen.facts, Cert.KernelIdeal.Gen.facts, Cert.ReferenceIdeal.Gen.facts,
    fun m ρ _ => Cert.Kernel.Gen.run m ρ,
    fun m ρ _ => (θ_run (Cert.KernelIdeal.defs (F := Ideal)) _ _).mono (fun _ h => ⟨fun c => (h.1 c).2, h.2⟩) (Cert.KernelIdeal.Gen.run m ρ),
    fun m ρ _ => Cert.ReferenceIdeal.Gen.frame m ρ,
    trivial,
    fun m g m' g' _ hm => ⟨fun c => Cert.KernelIdeal.Gen.acc m c Cert.KernelIdeal.Gen.tLast.val Cert.KernelIdeal.Gen.tLast.isLt,
      (θ_run (Cert.KernelIdeal.defs (F := Ideal)) _ _).mono (fun _ h => h.1) (Cert.KernelIdeal.Gen.run m g),
      (θ_run (Cert.ReferenceIdeal.defs (F := Ideal)) _ _).mono
        (fun _ h c => ⟨(h c).1.trans (value_eq m m' c (hm c).1 (hm c).2.1 (hm c).2.2), (h c).2⟩) (Cert.ReferenceIdeal.Value.run_blocks m' g')⟩⟩

end Cert.Proof

end
